-- ==== Defs.lean ====
def Pre_Kernel [hPre_ids_in_vocab : Cert.Pre_ids_in_vocab.Facts] (m : (ℓ : Loc Cert.Kernel.nD Cert.Kernel.τ Cert.Kernel.sig) → Buf (Elt Bits) ℓ) : Prop :=
  ∀ c : Dev Cert.Kernel.nD,
    (Cert.Pre_ids_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_vocab : Cert.Pre_ids_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_ids_in_vocab_mask_ones [hPre_ids_in_vocab_mask_ones : Cert.Pre_ids_in_vocab_mask_ones.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocab_mask_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocab_mask_ones [hPre_ids_in_vocab_mask_ones : Cert.Pre_ids_in_vocab_mask_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocab_mask_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_in_vocab : Cert.Pre_ids_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ids_in_vocab_mask_ones [hKernelIdeal : Cert.KernelIdeal.Facts] [hPre_ids_in_vocab_mask_ones : Cert.Pre_ids_in_vocab_mask_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_vocab_mask_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_in_vocab_mask_ones [hReferenceIdeal : Cert.ReferenceIdeal.Facts] [hPre_ids_in_vocab_mask_ones : Cert.Pre_ids_in_vocab_mask_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocab_mask_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_ids_in_vocab_mask_ones [hKernelIdeal : Cert.KernelIdeal.Facts] [hReferenceIdeal : Cert.ReferenceIdeal.Facts] [hPre_ids_in_vocab_mask_ones : Cert.Pre_ids_in_vocab_mask_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_vocab_mask_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_vocab : Cert.Pre_ids_in_vocab.Facts) (hPre_ids_in_vocab_mask_ones : Cert.Pre_ids_in_vocab_mask_ones.Facts),
    quiescent_Kernel (hKernel := hKernel) (hPre_ids_in_vocab := hPre_ids_in_vocab)
    ∧ quiescent_KernelIdeal (hKernelIdeal := hKernelIdeal) (hPre_ids_in_vocab := hPre_ids_in_vocab)
    ∧ quiescent_KernelIdeal_pre_ids_in_vocab_mask_ones (hKernelIdeal := hKernelIdeal) (hPre_ids_in_vocab_mask_ones := hPre_ids_in_vocab_mask_ones)
    ∧ quiescent_ReferenceIdeal (hReferenceIdeal := hReferenceIdeal)
    ∧ quiescent_ReferenceIdeal_pre_ids_in_vocab_mask_ones (hReferenceIdeal := hReferenceIdeal) (hPre_ids_in_vocab_mask_ones := hPre_ids_in_vocab_mask_ones)
    ∧ preserves_Kernel_KernelIdeal
    ∧ algebraic_KernelIdeal_ReferenceIdeal_pre_ids_in_vocab_mask_ones (hKernelIdeal := hKernelIdeal) (hReferenceIdeal := hReferenceIdeal) (hPre_ids_in_vocab_mask_ones := hPre_ids_in_vocab_mask_ones)
-- ==== Pre_ids_in_vocab.lean ====
abbrev S32x1024x1024 : Shape := ⟨3, ![32, 1024, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S32x1024 : S_.BroadcastsInDim S32x1024 (![] : Fin 0 → Fin S32x1024.rank)

variable [Facts]

def fn {F : FTy → Type} [FloatOps F] (main_arg0 : FVec F S32x1024x1024 .f32) (main_arg1 : IVec S32x1024 32) (main_arg2 : IVec S32x1024 32) (main_arg3 : FVec F S1024x1024 .f32) (main_arg4 : FVec F S1024 .f32) (main_arg5 : FVec F S1024x1 .f32) (main_arg6 : FVec F S1 .f32) : IVec S32x1024 1 :=
  let main_c : IVec S_ 32 := constantI S_ 32 0#32
  let main_v0 : IVec S32x1024 32 := broadcastInDim S32x1024 ![] bcast_S_S32x1024 main_c
  let main_v1 : IVec S32x1024 1 := cmpi .sge main_arg2 main_v0
  let main_c_0 : IVec S_ 32 := constantI S_ 32 250002#32
  let main_v2 : IVec S32x1024 32 := broadcastInDim S32x1024 ![] bcast_S_S32x1024 main_c_0
  let main_v3 : IVec S32x1024 1 := cmpi .slt main_arg2 main_v2
  let main_v4 : IVec S32x1024 1 := andi main_v1 main_v3
  main_v4
-- ==== Pre_ids_in_vocab_mask_ones.lean ====
abbrev S32x1024x1024 : Shape := ⟨3, ![32, 1024, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S32x1024 : S_.BroadcastsInDim S32x1024 (![] : Fin 0 → Fin S32x1024.rank)

variable [Facts]

def fn {F : FTy → Type} [FloatOps F] (main_arg0 : FVec F S32x1024x1024 .f32) (main_arg1 : IVec S32x1024 32) (main_arg2 : IVec S32x1024 32) (main_arg3 : FVec F S1024x1024 .f32) (main_arg4 : FVec F S1024 .f32) (main_arg5 : FVec F S1024x1 .f32) (main_arg6 : FVec F S1 .f32) : IVec S32x1024 1 :=
  let main_c : IVec S_ 32 := constantI S_ 32 0#32
  let main_v0 : IVec S32x1024 32 := broadcastInDim S32x1024 ![] bcast_S_S32x1024 main_c
  let main_v1 : IVec S32x1024 1 := cmpi .sge main_arg2 main_v0
  let main_c_0 : IVec S_ 32 := constantI S_ 32 250002#32
  let main_v2 : IVec S32x1024 32 := broadcastInDim S32x1024 ![] bcast_S_S32x1024 main_c_0
  let main_v3 : IVec S32x1024 1 := cmpi .slt main_arg2 main_v2
  let main_v4 : IVec S32x1024 1 := andi main_v1 main_v3
  let main_c_1 : IVec S_ 32 := constantI S_ 32 1#32
  let main_v5 : IVec S32x1024 32 := broadcastInDim S32x1024 ![] bcast_S_S32x1024 main_c_1
  let main_v6 : IVec S32x1024 1 := cmpi .eq main_arg1 main_v5
  let main_v7 : IVec S32x1024 1 := andi main_v4 main_v6
  main_v7
-- ==== Kernel.lean ====
abbrev S32x1024x1024 : Shape := ⟨3, ![32, 1024, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S1024x128 : Shape := ⟨2, ![1024, 128]⟩
abbrev S32x1x1024 : Shape := ⟨3, ![32, 1, 1024]⟩
abbrev S32x1960x128 : Shape := ⟨3, ![32, 1960, 128]⟩
abbrev S32x1023x1024 : Shape := ⟨3, ![32, 1023, 1024]⟩
abbrev S32x250880 : Shape := ⟨2, ![32, 250880]⟩
abbrev S32x250002 : Shape := ⟨2, ![32, 250002]⟩
abbrev S1x1024x1024 : Shape := ⟨3, ![1, 1024, 1024]⟩
abbrev S1x1x1024 : Shape := ⟨3, ![1, 1, 1024]⟩
abbrev S1x1960x128 : Shape := ⟨3, ![1, 1960, 128]⟩
abbrev S1x1023x1024 : Shape := ⟨3, ![1, 1023, 1024]⟩
abbrev S1960x128 : Shape := ⟨2, ![1960, 128]⟩
abbrev S1x1 : Shape := ⟨2, ![1, 1]⟩
abbrev S8x128 : Shape := ⟨2, ![8, 128]⟩
abbrev S1x1x1 : Shape := ⟨3, ![1, 1, 1]⟩
abbrev S1x8x128 : Shape := ⟨3, ![1, 8, 128]⟩
abbrev S1952x128 : Shape := ⟨2, ![1952, 128]⟩
abbrev S1x1952x128 : Shape := ⟨3, ![1, 1952, 128]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S511x1024 : Shape := ⟨2, ![511, 1024]⟩
abbrev S1x511x1024 : Shape := ⟨3, ![1, 511, 1024]⟩

abbrev nBuf : Space → Nat
  | .hbm => 16
  | .vmem => 20
  | .smem => 3
  | _ => 0

abbrev bufTy : (tb : Table) → Fin (tcTables nBuf tb) → BufTy
  | .hbm, ⟨0, _⟩ => ⟨S32x1024x1024, .f32⟩
  | .hbm, ⟨1, _⟩ => ⟨S32x1024, .i32⟩
  | .hbm, ⟨2, _⟩ => ⟨S32x1024, .i32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S1x1024, .f32⟩
  | .hbm, ⟨8, _⟩ => ⟨S1024x128, .f32⟩
  | .hbm, ⟨9, _⟩ => ⟨S32x1x1024, .i32⟩
  | .hbm, ⟨10, _⟩ => ⟨S32x1x1024, .f32⟩
  | .hbm, ⟨11, _⟩ => ⟨S32x1960x128, .f32⟩
  | .hbm, ⟨12, _⟩ => ⟨S32x1023x1024, .f32⟩
  | .hbm, ⟨13, _⟩ => ⟨S32x1024, .f32⟩
  | .hbm, ⟨14, _⟩ => ⟨S32x250880, .f32⟩
  | .hbm, ⟨15, _⟩ => ⟨S32x250002, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x128, .f32⟩
  | .local _ .vmem, ⟨5, _⟩ => ⟨S1x1x1024, .f32⟩
  | .local _ .vmem, ⟨6, _⟩ => ⟨S1x1x1024, .f32⟩
  | .local _ .vmem, ⟨7, _⟩ => ⟨S1x1960x128, .f32⟩
  | .local _ .vmem, ⟨8, _⟩ => ⟨S1x1960x128, .f32⟩
  | .local _ .vmem, ⟨9, _⟩ => ⟨S1x1023x1024, .f32⟩
  | .local _ .vmem, ⟨10, _⟩ => ⟨S1x1023x1024, .f32⟩
  | .local _ .vmem, ⟨11, _⟩ => ⟨S1024x128, .f32⟩
  | .local _ .vmem, ⟨12, _⟩ => ⟨S1960x128, .f32⟩
  | .local _ .vmem, ⟨13, _⟩ => ⟨S1960x128, .f32⟩
  | .local _ .vmem, ⟨14, _⟩ => ⟨S1960x128, .f32⟩
  | .local _ .vmem, ⟨15, _⟩ => ⟨S1960x128, .f32⟩
  | .local _ .vmem, ⟨16, _⟩ => ⟨S1960x128, .f32⟩
  | .local _ .vmem, ⟨17, _⟩ => ⟨S1960x128, .f32⟩
  | .local _ .vmem, ⟨18, _⟩ => ⟨S1960x128, .f32⟩
  | .local _ .vmem, ⟨19, _⟩ => ⟨S1960x128, .f32⟩
  | .local _ .smem, ⟨0, _⟩ => ⟨S1, .f32⟩
  | .local _ .smem, ⟨1, _⟩ => ⟨S1x1x1024, .i32⟩
  | .local _ .smem, ⟨2, _⟩ => ⟨S1x1x1024, .i32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3_0 : Ref sig .tc := ⟨.hbm, 10, rfl⟩
abbrev main_call0_v3_1 : Ref sig .tc := ⟨.hbm, 11, rfl⟩
abbrev main_v0_2 : Ref sig .tc := ⟨.hbm, 12, rfl⟩
abbrev main_v0_0 : Ref sig .tc := ⟨.hbm, 13, rfl⟩
abbrev main_call0_v5 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_stg4_0 : Ref sig .tc := ⟨.smem, 0, rfl⟩
abbrev cc0_stg5_0 : Ref sig .tc := ⟨.smem, 1, rfl⟩
abbrev cc0_stg5_1 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c128_i32 : BitVec 32 := 128#32
  let v55 : BitVec 32 := Scalar.addi c0_i32 c128_i32
  let c1_i32 : BitVec 32 := 1#32
  ⟨c0_i32, v55, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c8_i32 : BitVec 32 := 8#32
  let v129 : BitVec 32 := Scalar.muli arg19 c8_i32
  v129
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c8_i32 : BitVec 32 := 8#32
  let v129 : BitVec 32 := Scalar.muli arg19 c8_i32
  let v130 : BitVec 32 := v129
  let v131 : Index := Scalar.indexCast v130
  let c0_84 : Index := 0#32
  ![v131.toNat, 0]
def k0_off2 (k0_t1 : Fin k0_t1_loop.trips) : Fin 3 → Nat :=
  let c0_86 : Index := 0#32
  let c0_87 : Index := 0#32
  let c0_i32 : BitVec 32 := 0#32
  let c1_i32 : BitVec 32 := 1#32
  let arg19 : BitVec 32 := Scf.iv c0_i32 c1_i32 k0_t1
  let c8_i32 : BitVec 32 := 8#32
  let v129 : BitVec 32 := Scalar.muli arg19 c8_i32
  let c0_i32_85 : BitVec 32 := 0#32
  let v133 : BitVec 32 := Scalar.addi v129 c0_i32_85
  let v134 : Index := Scalar.indexCast v133
  ![0, 0, v134.toNat]
def k0_mult2 (v135 : BitVec 32) : BitVec 32 :=
  let c7_i32 : BitVec 32 := 7#32
  let v136 : BitVec 32 := Scalar.shrsi v135 c7_i32
  let c3_i32 : BitVec 32 := 3#32
  let v149 : BitVec 32 := Scalar.shrsi v136 c3_i32
  let c3_i32_91 : BitVec 32 := 3#32
  let v150 : BitVec 32 := Scalar.shli v149 c3_i32_91
  v150

def k0_off3 (v135 : BitVec 32) : Fin 2 → Nat :=
  let c7_i32 : BitVec 32 := 7#32
  let v136 : BitVec 32 := Scalar.shrsi v135 c7_i32
  let c3_i32 : BitVec 32 := 3#32
  let v149 : BitVec 32 := Scalar.shrsi v136 c3_i32
  let c3_i32_91 : BitVec 32 := 3#32
  let v150 : BitVec 32 := Scalar.shli v149 c3_i32_91
  let v151 : BitVec 32 := v150
  let v152 : Index := Scalar.indexCast v151
  let c0_92 : Index := 0#32
  ![v152.toNat, 0]

def k0_chk1 (v135 : BitVec 32) : Prop :=
  (8 ∣ (k0_mult2 v135).toNat) ∧
  (∀ a, (k0_off3 v135) a + S8x128.size a ≤ S1960x128.size a)
theorem k0_mult2_dvd : ∀ (v135 : BitVec 32) (k0_hw1 : k0_chk1 v135), 8 ∣ (k0_mult2 v135).toNat := fun v135 k0_hw1 => k0_hw1.1
theorem k0_off3_inb : ∀ (v135 : BitVec 32) (k0_hw1 : k0_chk1 v135), ∀ a, (k0_off3 v135) a + S8x128.size a ≤ S1960x128.size a := fun v135 k0_hw1 => k0_hw1.2

def k0_off4 (k0_t1 : Fin k0_t1_loop.trips) : Fin 3 → Nat :=
  let c0_95 : Index := 0#32
  let c0_96 : Index := 0#32
  let c0_i32 : BitVec 32 := 0#32
  let c1_i32 : BitVec 32 := 1#32
  let arg19 : BitVec 32 := Scf.iv c0_i32 c1_i32 k0_t1
  let c8_i32 : BitVec 32 := 8#32
  let v129 : BitVec 32 := Scalar.muli arg19 c8_i32
  let c1_i32_94 : BitVec 32 := 1#32
  let v159 : BitVec 32 := Scalar.addi v129 c1_i32_94
  let v160 : Index := Scalar.indexCast v159
  ![0, 0, v160.toNat]
def k0_mult3 (v161 : BitVec 32) : BitVec 32 :=
  let c7_i32_97 : BitVec 32 := 7#32
  let v162 : BitVec 32 := Scalar.shrsi v161 c7_i32_97
  let c3_i32_102 : BitVec 32 := 3#32
  let v175 : BitVec 32 := Scalar.shrsi v162 c3_i32_102
  let c3_i32_103 : BitVec 32 := 3#32
  let v176 : BitVec 32 := Scalar.shli v175 c3_i32_103
  v176

def k0_off5 (v161 : BitVec 32) : Fin 2 → Nat :=
  let c7_i32_97 : BitVec 32 := 7#32
  let v162 : BitVec 32 := Scalar.shrsi v161 c7_i32_97
  let c3_i32_102 : BitVec 32 := 3#32
  let v175 : BitVec 32 := Scalar.shrsi v162 c3_i32_102
  let c3_i32_103 : BitVec 32 := 3#32
  let v176 : BitVec 32 := Scalar.shli v175 c3_i32_103
  let v177 : BitVec 32 := v176
  let v178 : Index := Scalar.indexCast v177
  let c0_104 : Index := 0#32
  ![v178.toNat, 0]

def k0_chk2 (v161 : BitVec 32) : Prop :=
  (8 ∣ (k0_mult3 v161).toNat) ∧
  (∀ a, (k0_off5 v161) a + S8x128.size a ≤ S1960x128.size a)
theorem k0_mult3_dvd : ∀ (v161 : BitVec 32) (k0_hw2 : k0_chk2 v161), 8 ∣ (k0_mult3 v161).toNat := fun v161 k0_hw2 => k0_hw2.1
theorem k0_off5_inb : ∀ (v161 : BitVec 32) (k0_hw2 : k0_chk2 v161), ∀ a, (k0_off5 v161) a + S8x128.size a ≤ S1960x128.size a := fun v161 k0_hw2 => k0_hw2.2

def k0_off6 (k0_t1 : Fin k0_t1_loop.trips) : Fin 3 → Nat :=
  let c0_106 : Index := 0#32
  let c0_107 : Index := 0#32
  let c0_i32 : BitVec 32 := 0#32
  let c1_i32 : BitVec 32 := 1#32
  let arg19 : BitVec 32 := Scf.iv c0_i32 c1_i32 k0_t1
  let c8_i32 : BitVec 32 := 8#32
  let v129 : BitVec 32 := Scalar.muli arg19 c8_i32
  let c2_i32 : BitVec 32 := 2#32
  let v185 : BitVec 32 := Scalar.addi v129 c2_i32
  let v186 : Index := Scalar.indexCast v185
  ![0, 0, v186.toNat]
def k0_mult4 (v187 : BitVec 32) : BitVec 32 :=
  let c7_i32_108 : BitVec 32 := 7#32
  let v188 : BitVec 32 := Scalar.shrsi v187 c7_i32_108
  let c3_i32_113 : BitVec 32 := 3#32
  let v201 : BitVec 32 := Scalar.shrsi v188 c3_i32_113
  let c3_i32_114 : BitVec 32 := 3#32
  let v202 : BitVec 32 := Scalar.shli v201 c3_i32_114
  v202

def k0_off7 (v187 : BitVec 32) : Fin 2 → Nat :=
  let c7_i32_108 : BitVec 32 := 7#32
  let v188 : BitVec 32 := Scalar.shrsi v187 c7_i32_108
  let c3_i32_113 : BitVec 32 := 3#32
  let v201 : BitVec 32 := Scalar.shrsi v188 c3_i32_113
  let c3_i32_114 : BitVec 32 := 3#32
  let v202 : BitVec 32 := Scalar.shli v201 c3_i32_114
  let v203 : BitVec 32 := v202
  let v204 : Index := Scalar.indexCast v203
  let c0_115 : Index := 0#32
  ![v204.toNat, 0]

def k0_chk3 (v187 : BitVec 32) : Prop :=
  (8 ∣ (k0_mult4 v187).toNat) ∧
  (∀ a, (k0_off7 v187) a + S8x128.size a ≤ S1960x128.size a)
theorem k0_mult4_dvd : ∀ (v187 : BitVec 32) (k0_hw3 : k0_chk3 v187), 8 ∣ (k0_mult4 v187).toNat := fun v187 k0_hw3 => k0_hw3.1
theorem k0_off7_inb : ∀ (v187 : BitVec 32) (k0_hw3 : k0_chk3 v187), ∀ a, (k0_off7 v187) a + S8x128.size a ≤ S1960x128.size a := fun v187 k0_hw3 => k0_hw3.2

def k0_off8 (k0_t1 : Fin k0_t1_loop.trips) : Fin 3 → Nat :=
  let c0_118 : Index := 0#32
  let c0_119 : Index := 0#32
  let c0_i32 : BitVec 32 := 0#32
  let c1_i32 : BitVec 32 := 1#32
  let arg19 : BitVec 32 := Scf.iv c0_i32 c1_i32 k0_t1
  let c8_i32 : BitVec 32 := 8#32
  let v129 : BitVec 32 := Scalar.muli arg19 c8_i32
  let c3_i32_117 : BitVec 32 := 3#32
  let v211 : BitVec 32 := Scalar.addi v129 c3_i32_117
  let v212 : Index := Scalar.indexCast v211
  ![0, 0, v212.toNat]
def k0_mult5 (v213 : BitVec 32) : BitVec 32 :=
  let c7_i32_120 : BitVec 32 := 7#32
  let v214 : BitVec 32 := Scalar.shrsi v213 c7_i32_120
  let c3_i32_125 : BitVec 32 := 3#32
  let v227 : BitVec 32 := Scalar.shrsi v214 c3_i32_125
  let c3_i32_126 : BitVec 32 := 3#32
  let v228 : BitVec 32 := Scalar.shli v227 c3_i32_126
  v228

def k0_off9 (v213 : BitVec 32) : Fin 2 → Nat :=
  let c7_i32_120 : BitVec 32 := 7#32
  let v214 : BitVec 32 := Scalar.shrsi v213 c7_i32_120
  let c3_i32_125 : BitVec 32 := 3#32
  let v227 : BitVec 32 := Scalar.shrsi v214 c3_i32_125
  let c3_i32_126 : BitVec 32 := 3#32
  let v228 : BitVec 32 := Scalar.shli v227 c3_i32_126
  let v229 : BitVec 32 := v228
  let v230 : Index := Scalar.indexCast v229
  let c0_127 : Index := 0#32
  ![v230.toNat, 0]

def k0_chk4 (v213 : BitVec 32) : Prop :=
  (8 ∣ (k0_mult5 v213).toNat) ∧
  (∀ a, (k0_off9 v213) a + S8x128.size a ≤ S1960x128.size a)
theorem k0_mult5_dvd : ∀ (v213 : BitVec 32) (k0_hw4 : k0_chk4 v213), 8 ∣ (k0_mult5 v213).toNat := fun v213 k0_hw4 => k0_hw4.1
theorem k0_off9_inb : ∀ (v213 : BitVec 32) (k0_hw4 : k0_chk4 v213), ∀ a, (k0_off9 v213) a + S8x128.size a ≤ S1960x128.size a := fun v213 k0_hw4 => k0_hw4.2

def k0_off10 (k0_t1 : Fin k0_t1_loop.trips) : Fin 3 → Nat :=
  let c0_130 : Index := 0#32
  let c0_131 : Index := 0#32
  let c0_i32 : BitVec 32 := 0#32
  let c1_i32 : BitVec 32 := 1#32
  let arg19 : BitVec 32 := Scf.iv c0_i32 c1_i32 k0_t1
  let c8_i32 : BitVec 32 := 8#32
  let v129 : BitVec 32 := Scalar.muli arg19 c8_i32
  let c4_i32_129 : BitVec 32 := 4#32
  let v237 : BitVec 32 := Scalar.addi v129 c4_i32_129
  let v238 : Index := Scalar.indexCast v237
  ![0, 0, v238.toNat]
def k0_mult6 (v239 : BitVec 32) : BitVec 32 :=
  let c7_i32_132 : BitVec 32 := 7#32
  let v240 : BitVec 32 := Scalar.shrsi v239 c7_i32_132
  let c3_i32_137 : BitVec 32 := 3#32
  let v253 : BitVec 32 := Scalar.shrsi v240 c3_i32_137
  let c3_i32_138 : BitVec 32 := 3#32
  let v254 : BitVec 32 := Scalar.shli v253 c3_i32_138
  v254

def k0_off11 (v239 : BitVec 32) : Fin 2 → Nat :=
  let c7_i32_132 : BitVec 32 := 7#32
  let v240 : BitVec 32 := Scalar.shrsi v239 c7_i32_132
  let c3_i32_137 : BitVec 32 := 3#32
  let v253 : BitVec 32 := Scalar.shrsi v240 c3_i32_137
  let c3_i32_138 : BitVec 32 := 3#32
  let v254 : BitVec 32 := Scalar.shli v253 c3_i32_138
  let v255 : BitVec 32 := v254
  let v256 : Index := Scalar.indexCast v255
  let c0_139 : Index := 0#32
  ![v256.toNat, 0]

def k0_chk5 (v239 : BitVec 32) : Prop :=
  (8 ∣ (k0_mult6 v239).toNat) ∧
  (∀ a, (k0_off11 v239) a + S8x128.size a ≤ S1960x128.size a)
theorem k0_mult6_dvd : ∀ (v239 : BitVec 32) (k0_hw5 : k0_chk5 v239), 8 ∣ (k0_mult6 v239).toNat := fun v239 k0_hw5 => k0_hw5.1
theorem k0_off11_inb : ∀ (v239 : BitVec 32) (k0_hw5 : k0_chk5 v239), ∀ a, (k0_off11 v239) a + S8x128.size a ≤ S1960x128.size a := fun v239 k0_hw5 => k0_hw5.2

def k0_off12 (k0_t1 : Fin k0_t1_loop.trips) : Fin 3 → Nat :=
  let c0_141 : Index := 0#32
  let c0_142 : Index := 0#32
  let c0_i32 : BitVec 32 := 0#32
  let c1_i32 : BitVec 32 := 1#32
  let arg19 : BitVec 32 := Scf.iv c0_i32 c1_i32 k0_t1
  let c8_i32 : BitVec 32 := 8#32
  let v129 : BitVec 32 := Scalar.muli arg19 c8_i32
  let c5_i32 : BitVec 32 := 5#32
  let v263 : BitVec 32 := Scalar.addi v129 c5_i32
  let v264 : Index := Scalar.indexCast v263
  ![0, 0, v264.toNat]
def k0_mult7 (v265 : BitVec 32) : BitVec 32 :=
  let c7_i32_143 : BitVec 32 := 7#32
  let v266 : BitVec 32 := Scalar.shrsi v265 c7_i32_143
  let c3_i32_148 : BitVec 32 := 3#32
  let v279 : BitVec 32 := Scalar.shrsi v266 c3_i32_148
  let c3_i32_149 : BitVec 32 := 3#32
  let v280 : BitVec 32 := Scalar.shli v279 c3_i32_149
  v280

def k0_off13 (v265 : BitVec 32) : Fin 2 → Nat :=
  let c7_i32_143 : BitVec 32 := 7#32
  let v266 : BitVec 32 := Scalar.shrsi v265 c7_i32_143
  let c3_i32_148 : BitVec 32 := 3#32
  let v279 : BitVec 32 := Scalar.shrsi v266 c3_i32_148
  let c3_i32_149 : BitVec 32 := 3#32
  let v280 : BitVec 32 := Scalar.shli v279 c3_i32_149
  let v281 : BitVec 32 := v280
  let v282 : Index := Scalar.indexCast v281
  let c0_150 : Index := 0#32
  ![v282.toNat, 0]

def k0_chk6 (v265 : BitVec 32) : Prop :=
  (8 ∣ (k0_mult7 v265).toNat) ∧
  (∀ a, (k0_off13 v265) a + S8x128.size a ≤ S1960x128.size a)
theorem k0_mult7_dvd : ∀ (v265 : BitVec 32) (k0_hw6 : k0_chk6 v265), 8 ∣ (k0_mult7 v265).toNat := fun v265 k0_hw6 => k0_hw6.1
theorem k0_off13_inb : ∀ (v265 : BitVec 32) (k0_hw6 : k0_chk6 v265), ∀ a, (k0_off13 v265) a + S8x128.size a ≤ S1960x128.size a := fun v265 k0_hw6 => k0_hw6.2

def k0_off14 (k0_t1 : Fin k0_t1_loop.trips) : Fin 3 → Nat :=
  let c0_152 : Index := 0#32
  let c0_153 : Index := 0#32
  let c0_i32 : BitVec 32 := 0#32
  let c1_i32 : BitVec 32 := 1#32
  let arg19 : BitVec 32 := Scf.iv c0_i32 c1_i32 k0_t1
  let c8_i32 : BitVec 32 := 8#32
  let v129 : BitVec 32 := Scalar.muli arg19 c8_i32
  let c6_i32 : BitVec 32 := 6#32
  let v289 : BitVec 32 := Scalar.addi v129 c6_i32
  let v290 : Index := Scalar.indexCast v289
  ![0, 0, v290.toNat]
def k0_mult8 (v291 : BitVec 32) : BitVec 32 :=
  let c7_i32_154 : BitVec 32 := 7#32
  let v292 : BitVec 32 := Scalar.shrsi v291 c7_i32_154
  let c3_i32_159 : BitVec 32 := 3#32
  let v305 : BitVec 32 := Scalar.shrsi v292 c3_i32_159
  let c3_i32_160 : BitVec 32 := 3#32
  let v306 : BitVec 32 := Scalar.shli v305 c3_i32_160
  v306

def k0_off15 (v291 : BitVec 32) : Fin 2 → Nat :=
  let c7_i32_154 : BitVec 32 := 7#32
  let v292 : BitVec 32 := Scalar.shrsi v291 c7_i32_154
  let c3_i32_159 : BitVec 32 := 3#32
  let v305 : BitVec 32 := Scalar.shrsi v292 c3_i32_159
  let c3_i32_160 : BitVec 32 := 3#32
  let v306 : BitVec 32 := Scalar.shli v305 c3_i32_160
  let v307 : BitVec 32 := v306
  let v308 : Index := Scalar.indexCast v307
  let c0_161 : Index := 0#32
  ![v308.toNat, 0]

def k0_chk7 (v291 : BitVec 32) : Prop :=
  (8 ∣ (k0_mult8 v291).toNat) ∧
  (∀ a, (k0_off15 v291) a + S8x128.size a ≤ S1960x128.size a)
theorem k0_mult8_dvd : ∀ (v291 : BitVec 32) (k0_hw7 : k0_chk7 v291), 8 ∣ (k0_mult8 v291).toNat := fun v291 k0_hw7 => k0_hw7.1
theorem k0_off15_inb : ∀ (v291 : BitVec 32) (k0_hw7 : k0_chk7 v291), ∀ a, (k0_off15 v291) a + S8x128.size a ≤ S1960x128.size a := fun v291 k0_hw7 => k0_hw7.2

def k0_off16 (k0_t1 : Fin k0_t1_loop.trips) : Fin 3 → Nat :=
  let c0_164 : Index := 0#32
  let c0_165 : Index := 0#32
  let c0_i32 : BitVec 32 := 0#32
  let c1_i32 : BitVec 32 := 1#32
  let arg19 : BitVec 32 := Scf.iv c0_i32 c1_i32 k0_t1
  let c8_i32 : BitVec 32 := 8#32
  let v129 : BitVec 32 := Scalar.muli arg19 c8_i32
  let c7_i32_163 : BitVec 32 := 7#32
  let v315 : BitVec 32 := Scalar.addi v129 c7_i32_163
  let v316 : Index := Scalar.indexCast v315
  ![0, 0, v316.toNat]
def k0_mult9 (v317 : BitVec 32) : BitVec 32 :=
  let c7_i32_166 : BitVec 32 := 7#32
  let v318 : BitVec 32 := Scalar.shrsi v317 c7_i32_166
  let c3_i32_171 : BitVec 32 := 3#32
  let v331 : BitVec 32 := Scalar.shrsi v318 c3_i32_171
  let c3_i32_172 : BitVec 32 := 3#32
  let v332 : BitVec 32 := Scalar.shli v331 c3_i32_172
  v332

def k0_off17 (v317 : BitVec 32) : Fin 2 → Nat :=
  let c7_i32_166 : BitVec 32 := 7#32
  let v318 : BitVec 32 := Scalar.shrsi v317 c7_i32_166
  let c3_i32_171 : BitVec 32 := 3#32
  let v331 : BitVec 32 := Scalar.shrsi v318 c3_i32_171
  let c3_i32_172 : BitVec 32 := 3#32
  let v332 : BitVec 32 := Scalar.shli v331 c3_i32_172
  let v333 : BitVec 32 := v332
  let v334 : Index := Scalar.indexCast v333
  let c0_173 : Index := 0#32
  ![v334.toNat, 0]

def k0_chk8 (v317 : BitVec 32) : Prop :=
  (8 ∣ (k0_mult9 v317).toNat) ∧
  (∀ a, (k0_off17 v317) a + S8x128.size a ≤ S1960x128.size a)
theorem k0_mult9_dvd : ∀ (v317 : BitVec 32) (k0_hw8 : k0_chk8 v317), 8 ∣ (k0_mult9 v317).toNat := fun v317 k0_hw8 => k0_hw8.1
theorem k0_off17_inb : ∀ (v317 : BitVec 32) (k0_hw8 : k0_chk8 v317), ∀ a, (k0_off17 v317) a + S8x128.size a ≤ S1960x128.size a := fun v317 k0_hw8 => k0_hw8.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .smem S1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1960x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1023x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x1024x1024 : Shape := ⟨3, ![32, 1024, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S32x1x1024 : Shape := ⟨3, ![32, 1, 1024]⟩
abbrev S_ : Shape := ⟨0, ![]⟩
abbrev S32 : Shape := ⟨1, ![32]⟩
abbrev S32x1 : Shape := ⟨2, ![32, 1]⟩
abbrev S32x1024x1 : Shape := ⟨3, ![32, 1024, 1]⟩
abbrev S1x1x1 : Shape := ⟨3, ![1, 1, 1]⟩
abbrev S250002 : Shape := ⟨1, ![250002]⟩
abbrev S1x1x250002 : Shape := ⟨3, ![1, 1, 250002]⟩
abbrev S32x1024x250002 : Shape := ⟨3, ![32, 1024, 250002]⟩
abbrev S32x250002 : Shape := ⟨2, ![32, 250002]⟩
abbrev S1x250002 : Shape := ⟨2, ![1, 250002]⟩
abbrev S32x1023x1024 : Shape := ⟨3, ![32, 1023, 1024]⟩
abbrev S1x1x1024 : Shape := ⟨3, ![1, 1, 1024]⟩
abbrev S32x1023 : Shape := ⟨2, ![32, 1023]⟩
abbrev S32x1023x1 : Shape := ⟨3, ![32, 1023, 1]⟩

abbrev nBuf : Space → Nat
  | .hbm => 82
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .i32⟩
  | .hbm, ⟨2, _⟩ => ⟨S32x1024, .i32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S32x1x1024, .f32⟩
  | .hbm, ⟨8, _⟩ => ⟨S32x1024, .f32⟩
  | .hbm, ⟨9, _⟩ => ⟨S32x1024, .f32⟩
  | .hbm, ⟨10, _⟩ => ⟨S_, .f32⟩
  | .hbm, ⟨11, _⟩ => ⟨S32, .f32⟩
  | .hbm, ⟨12, _⟩ => ⟨S32x1, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S32x1024, .f32⟩
  | .hbm, ⟨18, _⟩ => ⟨S32x1024, .f32⟩
  | .hbm, ⟨19, _⟩ => ⟨S32x1024x1, .f32⟩
  | .hbm, ⟨20, _⟩ => ⟨S1x1x1, .f32⟩
  | .hbm, ⟨21, _⟩ => ⟨S32x1024x1, .f32⟩
  | .hbm, ⟨22, _⟩ => ⟨S32x1024x1, .f32⟩
  | .hbm, ⟨23, _⟩ => ⟨S_, .f32⟩
  | .hbm, ⟨24, _⟩ => ⟨S32x1024x1, .f32⟩
  | .hbm, ⟨25, _⟩ => ⟨S32x1024x1, .f32⟩
  | .hbm, ⟨26, _⟩ => ⟨S32x1024, .f32⟩
  | .hbm, ⟨27, _⟩ => ⟨S250002, .i32⟩
  | .hbm, ⟨28, _⟩ => ⟨S32x1024x1, .i32⟩
  | .hbm, ⟨29, _⟩ => ⟨S1x1x250002, .i32⟩
  | .hbm, ⟨30, _⟩ => ⟨S32x1024x250002, .i32⟩
  | .hbm, ⟨31, _⟩ => ⟨S32x1024x250002, .i32⟩
  | .hbm, ⟨32, _⟩ => ⟨S32x1024x250002, .i1⟩
  | .hbm, ⟨33, _⟩ => ⟨S32x1024x1, .f32⟩
  | .hbm, ⟨34, _⟩ => ⟨S_, .f32⟩
  | .hbm, ⟨35, _⟩ => ⟨S_, .f32⟩
  | .hbm, ⟨36, _⟩ => ⟨S32x1024x250002, .f32⟩
  | .hbm, ⟨37, _⟩ => ⟨S32x1024x250002, .f32⟩
  | .hbm, ⟨38, _⟩ => ⟨S32x1024x250002, .f32⟩
  | .hbm, ⟨39, _⟩ => ⟨S_, .f32⟩
  | .hbm, ⟨40, _⟩ => ⟨S32x250002, .f32⟩
  | .hbm, ⟨41, _⟩ => ⟨S_, .i32⟩
  | .hbm, ⟨42, _⟩ => ⟨S250002, .i32⟩
  | .hbm, ⟨43, _⟩ => ⟨S250002, .i1⟩
  | .hbm, ⟨44, _⟩ => ⟨S_, .i32⟩
  | .hbm, ⟨45, _⟩ => ⟨S250002, .i32⟩
  | .hbm, ⟨46, _⟩ => ⟨S250002, .i1⟩
  | .hbm, ⟨47, _⟩ => ⟨S250002, .i1⟩
  | .hbm, ⟨48, _⟩ => ⟨S_, .i32⟩
  | .hbm, ⟨49, _⟩ => ⟨S250002, .i32⟩
  | .hbm, ⟨50, _⟩ => ⟨S250002, .i1⟩
  | .hbm, ⟨51, _⟩ => ⟨S250002, .i1⟩
  | .hbm, ⟨52, _⟩ => ⟨S_, .i32⟩
  | .hbm, ⟨53, _⟩ => ⟨S250002, .i32⟩
  | .hbm, ⟨54, _⟩ => ⟨S250002, .i1⟩
  | .hbm, ⟨55, _⟩ => ⟨S250002, .i1⟩
  | .hbm, ⟨56, _⟩ => ⟨S1x250002, .i1⟩
  | .hbm, ⟨57, _⟩ => ⟨S_, .f32⟩
  | .hbm, ⟨58, _⟩ => ⟨S32x250002, .f32⟩
  | .hbm, ⟨59, _⟩ => ⟨S32x250002, .f32⟩
  | .hbm, ⟨60, _⟩ => ⟨S32x250002, .i1⟩
  | .hbm, ⟨61, _⟩ => ⟨S32x250002, .f32⟩
  | .hbm, ⟨62, _⟩ => ⟨S32x1023x1024, .f32⟩
  | .hbm, ⟨63, _⟩ => ⟨S32x1023x1024, .f32⟩
  | .hbm, ⟨64, _⟩ => ⟨S1x1x1024, .f32⟩
  | .hbm, ⟨65, _⟩ => ⟨S32x1023x1024, .f32⟩
  | .hbm, ⟨66, _⟩ => ⟨S32x1023x1024, .f32⟩
  | .hbm, ⟨67, _⟩ => ⟨S32x1023, .i32⟩
  | .hbm, ⟨68, _⟩ => ⟨S32x1023x1, .i32⟩
  | .hbm, ⟨69, _⟩ => ⟨S32x1023x1, .f32⟩
  | .hbm, ⟨70, _⟩ => ⟨S32x1023x1024, .f32⟩
  | .hbm, ⟨71, _⟩ => ⟨S32x1023x1024, .f32⟩
  | .hbm, ⟨72, _⟩ => ⟨S32x1023x1024, .f32⟩
  | .hbm, ⟨73, _⟩ => ⟨S_, .f32⟩
  | .hbm, ⟨74, _⟩ => ⟨S32x1023, .f32⟩
  | .hbm, ⟨75, _⟩ => ⟨S32x1023x1, .f32⟩
  | .hbm, ⟨76, _⟩ => ⟨S32x1023x1, .f32⟩
  | .hbm, ⟨77, _⟩ => ⟨S_, .f32⟩
  | .hbm, ⟨78, _⟩ => ⟨S32x1023x1, .f32⟩
  | .hbm, ⟨79, _⟩ => ⟨S32x1023x1, .f32⟩
  | .hbm, ⟨80, _⟩ => ⟨S32x1023x1024, .f32⟩
  | .hbm, ⟨81, _⟩ => ⟨S32x1023x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_call3_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call4_v0 : Ref sig .tc := ⟨.hbm, 72, rfl⟩
abbrev main_call4_cst : Ref sig .tc := ⟨.hbm, 73, rfl⟩
abbrev main_call4_v1 : Ref sig .tc := ⟨.hbm, 74, rfl⟩
abbrev main_call4_v2 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]
-- ==== Proof.Ids.lean ====
/-
  What the two preconditions say of an element: an id is below the vocabulary's size, and a mask entry is one.
-/
module

public import proofs.«01_k».proof.Proof.Gen.Pre_ids_in_vocab
public import proofs.«01_k».proof.Proof.Gen.Pre_ids_in_vocab_mask_ones

@[expose] public section

set_option maxRecDepth 16384

noncomputable section

namespace Cert.Ids

open Idealize.ShloMosaic

/-- A word at least zero and below 250002, both read with sign, is below 250002 read without. -/
theorem toNat_lt (w : BitVec 32) (h0 : ((0#32).sle w) = true) (h1 : w.slt 250002#32 = true) : w.toNat < 250002 := by
  rw [BitVec.sle_iff_toInt_le] at h0
  rw [BitVec.slt_iff_toInt_lt] at h1
  have e0 : (0#32 : BitVec 32).toInt = 0 := by decide
  have e1 : (250002#32 : BitVec 32).toInt = 250002 := by decide
  rw [e0] at h0
  rw [e1] at h1
  have := BitVec.toInt_eq_toNat_cond w
  have := w.isLt
  split at * <;> omega

/-- A conjunction of two bits is one only when each is. -/
theorem and_one (a b : BitVec 1) (h : a &&& b = 1#1) : a = 1#1 ∧ b = 1#1 := by
  revert a b; decide

/-- A bit made of a test is one only when the test holds. -/
theorem of_ofBool (b : Bool) (h : BitVec.ofBool b = 1#1) : b = true := by
  revert b; decide

variable {F : FTy → Type} [FloatOps F]

/-- What the ids' precondition says: every id is below the vocabulary's size. -/
theorem low (x m i w b sw sb) (h : Cert.Pre_ids_in_vocab.fn (F := F) x m i w b sw sb = fun _ => 1#1) (y) : (i y : BitVec 32).toNat < 250002 := by
  have h := congrFun h y
  obtain ⟨h1, h2⟩ := and_one _ _ h
  exact toNat_lt _ (of_ofBool _ h1) (of_ofBool _ h2)

/-- What the ids' and the mask's precondition says of the ids. -/
theorem low' (x m i w b sw sb) (h : Cert.Pre_ids_in_vocab_mask_ones.fn (F := F) x m i w b sw sb = fun _ => 1#1) (y) : (i y : BitVec 32).toNat < 250002 := by
  have h := congrFun h y
  obtain ⟨h1, h2⟩ := and_one _ _ (and_one _ _ h).1
  exact toNat_lt _ (of_ofBool _ h1) (of_ofBool _ h2)

/-- What the ids' and the mask's precondition says of the mask. -/
theorem ones (x m i w b sw sb) (h : Cert.Pre_ids_in_vocab_mask_ones.fn (F := F) x m i w b sw sb = fun _ => 1#1) (y) : (m y : BitVec 32) = 1#32 := by
  have h := congrFun h y
  have h1 := of_ofBool _ (and_one _ _ h).2
  exact eq_of_beq h1

end Cert.Ids

end
-- ==== Proof.Words.lean ====
/-
  Word arithmetic of a vocabulary id: the kernel takes an id `v` apart as the row `v >> 7` and the lane `v & 127` of a
  table of 128 lanes, and the row again as the group of eight rows `row >> 3` and the row `row & 7` in it.  Every fact
  here is about 32-bit words alone.
-/
module

public import Idealize.ShloMosaic.Lib.WordArith
public import Idealize.ShloMosaic.Lib.WordArith.Masks

@[expose] public section

noncomputable section

namespace Cert.Words

open Idealize.ShloMosaic

/-- Below `2 ^ 31` an arithmetic right shift by 7 is the quotient by 128. -/
theorem toNat_shr7 (w : BitVec 32) (h : w.toNat < 2 ^ 31) : (Scalar.shrsi w 7#32).toNat = w.toNat / 128 := by
  have hm : w.msb = false := by rw [BitVec.msb_eq_decide]; simp; omega
  show (IntOp.shrsi .scalar w 7#32).toNat = _
  unfold IntOp.shrsi
  simp [BitVec.sshiftRight_eq_of_msb_false hm, Nat.shiftRight_eq_div_pow]

/-- Below `2 ^ 31` an arithmetic right shift by 3 is the quotient by 8. -/
theorem toNat_shr3 (w : BitVec 32) (h : w.toNat < 2 ^ 31) : (Scalar.shrsi w 3#32).toNat = w.toNat / 8 := by
  have hm : w.msb = false := by rw [BitVec.msb_eq_decide]; simp; omega
  show (IntOp.shrsi .scalar w 3#32).toNat = _
  unfold IntOp.shrsi
  simp [BitVec.sshiftRight_eq_of_msb_false hm, Nat.shiftRight_eq_div_pow]

/-- Below `2 ^ 29` a left shift by 3 is the product by 8. -/
theorem toNat_shl3 (w : BitVec 32) (h : w.toNat < 2 ^ 29) : (Scalar.shli w 3#32).toNat = 8 * w.toNat := by
  show (IntOp.shli .scalar w 3#32).toNat = _
  unfold IntOp.shli
  simp [BitVec.toNat_shiftLeft, Nat.shiftLeft_eq]
  omega

/-- The first row of the group of eight that the id's row lies in. -/
theorem toNat_group (w : BitVec 32) (h : w.toNat < 2 ^ 31) :
    (Scalar.shli (Scalar.shrsi (Scalar.shrsi w 7#32) 3#32) 3#32).toNat = 8 * (w.toNat / 1024) := by
  have h7 := toNat_shr7 w h
  have h3 := toNat_shr3 (Scalar.shrsi w 7#32) (by omega)
  rw [toNat_shl3 _ (by omega), h3, h7]; omega

/-- The id's row within its group of eight. -/
theorem toNat_sub_row (w : BitVec 32) (h : w.toNat < 2 ^ 31) : (Scalar.andi (Scalar.shrsi w 7#32) 7#32).toNat = w.toNat / 128 % 8 := by
  rw [WordArith.toNat_andi_lowMask _ _ 3 rfl, toNat_shr7 w h]; rfl

/-- The id's lane. -/
theorem toNat_lane (w : BitVec 32) : (Scalar.andi w 127#32).toNat = w.toNat % 128 :=
  WordArith.toNat_andi_lowMask _ _ 7 rfl

/-- The rotation amount: the row less the token's number, modulo 8. -/
theorem toNat_rot (w i : BitVec 32) (h : w.toNat < 2 ^ 31) (hi : i.toNat < 2 ^ 31) :
    (Scalar.andi (Scalar.subi (Scalar.shrsi w 7#32) i) 7#32).toNat = (w.toNat / 128 % 8 + 8 - i.toNat % 8) % 8 := by
  rw [WordArith.toNat_andi_lowMask _ _ 3 rfl]
  show (IntOp.subi _ i).toNat % 8 = _
  unfold IntOp.subi
  rw [BitVec.toNat_sub, toNat_shr7 w h]; omega

end Cert.Words

end
-- ==== Proof.Trip.lean ====
/-
  One trip of the token loop (the program over the extended reals): eight tokens, each taking its row and lane of its own table to the larger of what is there and
  its weight.
-/
module

public import proofs.«01_k».proof.Proof.Gen.KernelIdeal.Frame
public import proofs.«01_k».proof.Proof.Gen.KernelIdeal.Loops
public import proofs.«01_k».proof.Proof.Words
public import Idealize.ShloMosaic.Lib.LaneScatter.Own
public import Idealize.ShloMosaic.Lib.VecWindow
public import Idealize.ShloMosaic.Lib.ValueIdx

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
local notation "𝕄" => MT nD τ sig Unit (Elt F) ℕ (UU nD τ) ℕ

/-- The side condition the kernel assumes of an id it reads holds of every id of the vocabulary. -/
theorem chk_of_lt (w : BitVec 32) (h : w.toNat < 250002) : k0_chk1 w := by
  have e := Words.toNat_group w (by omega)
  refine ⟨?_, ?_⟩
  · show 8 ∣ (Scalar.shli (Scalar.shrsi (Scalar.shrsi w 7#32) 3#32) 3#32).toNat
    rw [e]; exact ⟨_, rfl⟩
  · refine Fin.forall_fin_two.mpr ⟨?_, ?_⟩
    · show (Scalar.shli (Scalar.shrsi (Scalar.shrsi w 7#32) 3#32) 3#32).toNat + 8 ≤ 1960
      rw [e]; omega
    · show 0 + 128 ≤ 128
      omega

/-- What one token does to the eight rows its id names. -/
def tokRows (i w : BitVec 32) (z old : FVec F S8x128 .f32) : FVec F S8x128 .f32 :=
  shapeCast S8x128 (maximumf old (select
    (andi (cmpi .eq (iota .tc S8x128 32 [0] iota_S8x128_d0_w32) (broadcast S8x128 (Scalar.andi (Scalar.shrsi w 7#32) 7#32)))
      (cmpi .eq (iota .tc S8x128 32 [1] iota_S8x128_d1_w32) (broadcast S8x128 (Scalar.andi w 127#32))))
    (dynamicRotate 0 (Scalar.andi (Scalar.subi (Scalar.shrsi w 7#32) i) 7#32) none z rotates_S8x128_d0)
    (broadcast S8x128 (Scalar.ofBits .f32 0x00000000#32)))) shapeCasts_S8x128_S8x128

/-- The word at place `p` of a block of 1024 words. -/
def wordAt (x : Vec F S1x1x1024 .i32) (p : ℕ) : BitVec 32 := x (ix3 (0 : Fin 1) (0 : Fin 1) (⟨p % 1024, Nat.mod_lt _ (by decide)⟩ : Fin 1024))

/-- Rows `8 k … 8 k + 7` of a block of 1024 rows. -/
def rows8 (x : Vec F S1024x128 .f32) (k : ℕ) : FVec F S8x128 .f32 :=
  fun y => x (ix2 (⟨(8 * k + (y 0).val) % 1024, Nat.mod_lt _ (by decide)⟩ : Fin 1024) (y 1))

/-- A table after one token: the eight rows its id names are `tokRows` of what they were. -/
def tokPut (i w : BitVec 32) (z : FVec F S8x128 .f32) (A : Vec F S1960x128 .f32) : Vec F S1960x128 .f32 :=
  if h : k0_chk1 w then
    VecWindow.put A (k0_off3 w) S8x128.size (tokRows i w z (VecWindow.window A (k0_off3 w) S8x128.size (k0_off3_inb w h)))
  else A

/-- Table `u` after `k` trips from zeros: token `8 j + u` of each trip `j < k` put in order. -/
def tabAt (x6 : Vec F S1x1x1024 .i32) (xz : Vec F S1024x128 .f32) (u : ℕ) : ℕ → Vec F S1960x128 .f32
  | 0 => k0_pay13
  | k + 1 => tokPut (BitVec.ofNat 32 (8 * k + u)) (wordAt x6 (8 * k + u)) (rows8 xz k) (tabAt x6 xz u k)

/-- The loop runs 128 trips. -/
theorem trips_eq : k0_t1_loop.trips = 128 := by decide

theorem lt_trips (k : Fin k0_t1_loop.trips) : k.val < 128 := lt_of_lt_of_eq k.isLt trips_eq

/-- The token number the kernel computes in trip `k` at place `u`. -/
theorem tok_eq (k u : ℕ) : Scalar.addi (Scalar.muli (Scf.iv 0#32 1#32 k) 8#32) (BitVec.ofNat 32 u) = BitVec.ofNat 32 (8 * k + u) := by
  show (0#32 + BitVec.ofNat 32 k * 1#32) * 8#32 + BitVec.ofNat 32 u = _
  apply BitVec.eq_of_toNat_eq
  simp [BitVec.toNat_add, BitVec.toNat_mul]
  omega

/-- The token number as an offset, below 1024. -/
theorem toNat_tok (k u : ℕ) (hk : k < 128) (hu : u < 8) :
    (Scalar.addi (Scalar.muli (Scf.iv 0#32 1#32 k) 8#32) (BitVec.ofNat 32 u)).toNat = 8 * k + u := by
  rw [tok_eq, BitVec.toNat_ofNat]; omega

/-- A load of one word at place `p` reads the word there. -/
theorem load_word (M : Memref sig .tc .smem S1x1x1024 .i32) (f : M.view.ty.Contents (Elt F)) (off : Fin 3 → ℕ) (p : ℕ)
    (inb : ∀ a, off a + S1x1x1.size a ≤ S1x1x1024.size a) (hoff : off = ![0, 0, p]) (y : (Rect.unit (s := S1x1x1024) off S1x1x1.size inb).shape.Idx) :
    M.view.readAt (Elt F) (Rect.unit (s := S1x1x1024) off S1x1x1.size inb).toLoadRect f y = wordAt (M.view.read (Elt F) f) p := by
  subst hoff
  have hp : p + 1 ≤ 1024 := inb 2
  refine congrArg (M.view.read (Elt F) f) (funext fun a => Fin.ext ?_)
  have hy : (y a).val = 0 := by
    have h1 := (y a).isLt
    fin_cases a <;> exact Nat.lt_one_iff.mp h1
  show (![0, 0, p] : Fin 3 → ℕ) a + 1 * (y a).val = _
  rw [hy]
  fin_cases a
  · rfl
  · rfl
  · show p + 1 * 0 = p % 1024
    omega

/-- A load of eight rows at row `8 k` reads them. -/
theorem load_rows (M : Memref sig .tc .vmem S1024x128 .f32) (f : M.view.ty.Contents (Elt F)) (off : Fin 2 → ℕ) (k : ℕ) (hk : k < 128)
    (inb : ∀ a, off a + S8x128.size a ≤ S1024x128.size a) (hoff : off = ![8 * k, 0]) :
    M.view.readAt (Elt F) (Rect.unit (s := S1024x128) off S8x128.size inb).toLoadRect f = rows8 (M.view.read (Elt F) f) k := by
  subst hoff
  funext y
  refine congrArg (M.view.read (Elt F) f) (funext fun a => Fin.ext ?_)
  show (![8 * k, 0] : Fin 2 → ℕ) a + 1 * (y a).val = _
  have h0 : (y 0).val < 8 := (y 0).isLt
  fin_cases a
  · show 8 * k + 1 * (y 0).val = (8 * k + (y 0).val) % 1024
    omega
  · show 0 + 1 * (y 1).val = (y 1).val
    omega

/-- A store of `tokRows` over the eight rows that an id names leaves the table `tokPut`. -/
theorem store_tok (M : Memref sig .tc .vmem S1960x128 .f32) (f : M.view.ty.Contents (Elt F)) (i w : BitVec 32) (z : FVec F S8x128 .f32)
    (inb : ∀ a, k0_off3 w a + S8x128.size a ≤ S1960x128.size a) (hw : w.toNat < 250002)
    (pay : FVec F S8x128 .f32)
    (hpay : pay = tokRows i w z (M.view.readAt (Elt F) (Rect.unit (s := S1960x128) (k0_off3 w) S8x128.size inb).toLoadRect f)) :
    M.view.read (Elt F) (M.view.writes (Elt F) f [⟨Rect.unit (s := S1960x128) (k0_off3 w) S8x128.size inb, pay⟩])
      = tokPut i w z (M.view.read (Elt F) f) := by
  subst hpay
  unfold tokPut
  rw [dif_pos (chk_of_lt w hw)]
  exact View.read_writes_cons_put M.view f inb _ [] rfl

/-- The memrefs one trip uses, the tables at `A n` for `n` the number of the memref. -/
abbrev tripRes (c : Dev nD) (arg6 : Memref sig .tc .smem S1x1x1024 .i32) (arg10 : Memref sig .tc .vmem S1024x128 .f32) (arg11 arg12 arg13 arg14 arg15 arg16 arg17 arg18 : Memref sig .tc .vmem S1960x128 .f32) (x6 : Vec F S1x1x1024 .i32) (xz : Vec F S1024x128 .f32) (k : ℕ) : sProp 𝕄 :=
  iprop(owns (c : Thread nD τ) arg6 fullShare x6 ∗ owns (c : Thread nD τ) arg10 fullShare xz ∗ owns (c : Thread nD τ) arg11 fullShare (tabAt x6 xz 0 k) ∗ owns (c : Thread nD τ) arg12 fullShare (tabAt x6 xz 1 k) ∗ owns (c : Thread nD τ) arg13 fullShare (tabAt x6 xz 2 k) ∗ owns (c : Thread nD τ) arg14 fullShare (tabAt x6 xz 3 k) ∗ owns (c : Thread nD τ) arg15 fullShare (tabAt x6 xz 4 k) ∗ owns (c : Thread nD τ) arg16 fullShare (tabAt x6 xz 5 k) ∗ owns (c : Thread nD τ) arg17 fullShare (tabAt x6 xz 6 k) ∗ owns (c : Thread nD τ) arg18 fullShare (tabAt x6 xz 7 k))

set_option maxHeartbeats 4000000 in
/-- One trip takes the eight tables after `k` trips to the eight tables after `k + 1`. -/
theorem trip (𝒱 : Variants) (c : Dev nD) (i : grid0.Coords) (arg1 : Memref sig .tc .vmem S1x1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x128 .f32) (harg4 : arg4.IsWhole) (arg5 : Memref sig .tc .smem S1 .f32) (harg5 : arg5.IsWhole) (arg6 : Memref sig .tc .smem S1x1x1024 .i32) (harg6 : arg6.IsWhole) (arg7 : Memref sig .tc .vmem S1x1x1024 .f32) (harg7 : arg7.IsWhole) (arg8 : Memref sig .tc .vmem S1x1960x128 .f32) (harg8 : arg8.IsWhole) (arg9 : Memref sig .tc .vmem S1x1023x1024 .f32) (harg9 : arg9.IsWhole) (arg10 : Memref sig .tc .vmem S1024x128 .f32) (harg10 : arg10.IsWhole) (arg11 : Memref sig .tc .vmem S1960x128 .f32) (harg11 : arg11.IsWhole) (arg12 : Memref sig .tc .vmem S1960x128 .f32) (harg12 : arg12.IsWhole) (arg13 : Memref sig .tc .vmem S1960x128 .f32) (harg13 : arg13.IsWhole) (arg14 : Memref sig .tc .vmem S1960x128 .f32) (harg14 : arg14.IsWhole) (arg15 : Memref sig .tc .vmem S1960x128 .f32) (harg15 : arg15.IsWhole) (arg16 : Memref sig .tc .vmem S1960x128 .f32) (harg16 : arg16.IsWhole) (arg17 : Memref sig .tc .vmem S1960x128 .f32) (harg17 : arg17.IsWhole) (arg18 : Memref sig .tc .vmem S1960x128 .f32) (harg18 : arg18.IsWhole) (v28 : FVec F S1960x128 .f32) (x6 : Vec F S1x1x1024 .i32) (xz : Vec F S1024x128 .f32)
    (hx : ∀ y, BitVec.toNat (x6 y : BitVec 32) < 250002) (k : Fin k0_t1_loop.trips) :
    tripRes c arg6 arg10 arg11 arg12 arg13 arg14 arg15 arg16 arg17 arg18 x6 xz k.val ⊢
      wp frame (wpE (defs₀ (F := F)) 𝒱 (c : Thread nD τ) none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v28 (iota .tc S8x128 32 [1] iota_S8x128_d1_w32) (iota .tc S8x128 32 [0] iota_S8x128_d0_w32) k ())
       (fun _ => tripRes c arg6 arg10 arg11 arg12 arg13 arg14 arg15 arg16 arg17 arg18 x6 xz (k.val + 1)) := by
  unfold k0_t1_body tripRes owns
  iintro ⟨⟨%f6, %h6, H6⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩
  have hw : ∀ r y, BitVec.toNat (arg6.view.readAt (Elt F) r f6 y : BitVec 32) < 250002 := fun r y => by
    have := hx (r.idx y)
    rw [← h6] at this; exact this
  have hk := lt_trips k
  sl_exec (disch := (exact chk_of_lt _ (hw _ _)))
  have hz : arg10.view.readAt (Elt F) (Rect.unit (s := S1024x128) (k0_off1 k) S8x128.size (k0_off1_inb k)).toLoadRect f10 = rows8 xz k.val := by
    rw [← h10]
    refine load_rows arg10 f10 _ _ hk _ ?_
    show ![(Scalar.muli (Scf.iv 0#32 1#32 k) 8#32).toNat, 0] = _
    have := toNat_tok k 0 hk (by decide)
    have e : Scalar.addi (Scalar.muli (Scf.iv 0#32 1#32 k) 8#32) (BitVec.ofNat 32 0) = Scalar.muli (Scf.iv 0#32 1#32 k) 8#32 := BitVec.add_zero _
    rw [e] at this; rw [this]; rfl
  have tok : ∀ (u : ℕ) (off : Fin 3 → ℕ) (inb : ∀ a, off a + S1x1x1.size a ≤ S1x1x1024.size a) (y) (M : Memref sig .tc .vmem S1960x128 .f32)
      (f : M.view.ty.Contents (Elt F)) (inb') (pay : FVec F S8x128 .f32), u < 8 →
      off = ![0, 0, (Scalar.addi (Scalar.muli (Scf.iv 0#32 1#32 k) 8#32) (BitVec.ofNat 32 u)).toNat] →
      M.view.read (Elt F) f = tabAt x6 xz u k.val →
      pay = tokRows (Scalar.addi (Scalar.muli (Scf.iv 0#32 1#32 k) 8#32) (BitVec.ofNat 32 u))
        (arg6.view.readAt (Elt F) (Rect.unit (s := S1x1x1024) off S1x1x1.size inb).toLoadRect f6 y)
        (arg10.view.readAt (Elt F) (Rect.unit (s := S1024x128) (k0_off1 k) S8x128.size (k0_off1_inb k)).toLoadRect f10)
        (M.view.readAt (Elt F) (Rect.unit (s := S1960x128) (k0_off3 (arg6.view.readAt (Elt F) (Rect.unit (s := S1x1x1024) off S1x1x1.size inb).toLoadRect f6 y)) S8x128.size inb').toLoadRect f) →
      M.view.read (Elt F) (M.view.writes (Elt F) f [⟨Rect.unit (s := S1960x128) (k0_off3 (arg6.view.readAt (Elt F) (Rect.unit (s := S1x1x1024) off S1x1x1.size inb).toLoadRect f6 y)) S8x128.size inb', pay⟩])
        = tabAt x6 xz u (k.val + 1) := by
    intro u off inb y M f inb' pay hu hoff hf hpay
    rw [store_tok M f _ _ _ inb' (hw _ _) pay hpay, hz, hf, tok_eq, tabAt]
    have ew := load_word arg6 f6 off (8 * k.val + u) inb (by rw [hoff, toNat_tok k u hk hu]) y
    rw [h6] at ew
    exact congrArg (fun w => tokPut _ w _ _) ew
  sl_step
  isplitl [H6]
  · iexists f6; isplitr; · ipureintro; exact h6
    iexact H6
  isplitl [H10]
  · iexists f10; isplitr; · ipureintro; exact h10
    iexact H10
  isplitl [H11]
  · iexists _; isplitr; swap; · iexact H11
    ipureintro; exact tok 0 _ _ _ arg11 f11 _ _ (by decide) rfl h11 rfl
  isplitl [H12]
  · iexists _; isplitr; swap; · iexact H12
    ipureintro; exact tok 1 _ _ _ arg12 f12 _ _ (by decide) rfl h12 rfl
  isplitl [H13]
  · iexists _; isplitr; swap; · iexact H13
    ipureintro; exact tok 2 _ _ _ arg13 f13 _ _ (by decide) rfl h13 rfl
  isplitl [H14]
  · iexists _; isplitr; swap; · iexact H14
    ipureintro; exact tok 3 _ _ _ arg14 f14 _ _ (by decide) rfl h14 rfl
  isplitl [H15]
  · iexists _; isplitr; swap; · iexact H15
    ipureintro; exact tok 4 _ _ _ arg15 f15 _ _ (by decide) rfl h15 rfl
  isplitl [H16]
  · iexists _; isplitr; swap; · iexact H16
    ipureintro; exact tok 5 _ _ _ arg16 f16 _ _ (by decide) rfl h16 rfl
  isplitl [H17]
  · iexists _; isplitr; swap; · iexact H17
    ipureintro; exact tok 6 _ _ _ arg17 f17 _ _ (by decide) rfl h17 rfl
  iexists _; isplitr; swap; · iexact H18
  ipureintro; exact tok 7 _ _ _ arg18 f18 _ _ (by decide) rfl h18 rfl

end Cert.KernelIdeal.Own

end
-- ==== Proof.Body.lean ====
/-
  The kernel's body at one grid point (the program over the extended reals): what it leaves in the three result blocks, as functions of what it loads.
-/
module

public import proofs.«01_k».proof.Proof.Trip

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The dense row of a sequence's first token. -/
def denseOut (x1 : Vec F S1x1024x1024 .f32) : Vec F S1x1x1024 .f32 :=
  k0_pay10 (VecWindow.window x1 ![0, 0, 0] S1x1x1024.size inb_S1x1024x1024_S1x1x1024_0_0_0)

/-- Every token's weight, one copy a lane. -/
def weights (x1 : Vec F S1x1024x1024 .f32) (x4 : Vec F S1024x128 .f32) (x5 : Vec F S1 .f32) : Vec F S1024x128 .f32 :=
  k0_pay11 x1 x4 (x5 (Shape.Idx.first (numel1_S1 ▸ Nat.one_pos)))

/-- Table `u` when the loop is done. -/
def tab (x1 : Vec F S1x1024x1024 .f32) (x4 : Vec F S1024x128 .f32) (x5 : Vec F S1 .f32) (x6 : Vec F S1x1x1024 .i32) (u : ℕ) : Vec F S1960x128 .f32 :=
  tabAt x6 (weights x1 x4 x5) u 128

/-- The sparse block: the largest of the eight tables, the first four ids at zero. -/
def sparseOut (x1 : Vec F S1x1024x1024 .f32) (x4 : Vec F S1024x128 .f32) (x5 : Vec F S1 .f32) (x6 : Vec F S1x1x1024 .i32) : Vec F S1x1960x128 .f32 :=
  fun j =>
    if h : (j 1).val < 8 then
      k0_pay24 (iota .tc S8x128 32 [1] iota_S8x128_d1_w32) (iota .tc S8x128 32 [0] iota_S8x128_d0_w32)
        (k0_pay22 (tab x1 x4 x5 x6 0) (tab x1 x4 x5 x6 1)) (tab x1 x4 x5 x6 2) (tab x1 x4 x5 x6 3) (tab x1 x4 x5 x6 4)
        (tab x1 x4 x5 x6 5) (tab x1 x4 x5 x6 6) (tab x1 x4 x5 x6 7) (ix3 (j 0) (⟨(j 1).val, h⟩ : Fin 8) (j 2))
    else
      k0_pay25 (k0_pay22 (tab x1 x4 x5 x6 0) (tab x1 x4 x5 x6 1)) (tab x1 x4 x5 x6 2) (tab x1 x4 x5 x6 3) (tab x1 x4 x5 x6 4)
        (tab x1 x4 x5 x6 5) (tab x1 x4 x5 x6 6) (tab x1 x4 x5 x6 7)
        (ix3 (j 0) (⟨(j 1).val - 8, by have : (j 1).val < 1960 := (j 1).isLt; omega⟩ : Fin 1952) (j 2))

/-- The colbert block: every token but the first, the two halves of the block apart. -/
def colbertOut (x1 : Vec F S1x1024x1024 .f32) (x2 : Vec F S1024x1024 .f32) (x3 : Vec F S1x1024 .f32) : Vec F S1x1023x1024 .f32 :=
  fun j =>
    if h : (j 1).val < 512 then
      k0_pay28 (k0_pay26 (VecWindow.window x1 ![0, 1, 0] S1x512x1024.size inb_S1x1024x1024_S1x512x1024_0_1_0) x2) (k0_pay27 x3)
        (ix3 (j 0) (⟨(j 1).val, h⟩ : Fin 512) (j 2))
    else
      k0_pay29 (VecWindow.window x1 ![0, 512, 0] S1x512x1024.size inb_S1x1024x1024_S1x512x1024_0_512_0) x2 x3
        (ix3 (j 0) (⟨(j 1).val - 512, by have : (j 1).val < 1023 := (j 1).isLt; omega⟩ : Fin 511) (j 2))

/-- What a block of 1960 rows holds after its first 8 rows and its other 1952 are stored. -/
theorem read_sparse (M : Memref sig .tc .vmem S1x1960x128 .f32) (f : M.view.ty.Contents (Elt F)) (pA : FVec F S1x8x128 .f32) (pB : FVec F S1x1952x128 .f32)
    (hA : ∀ a, (![0, 0, 0] : Fin 3 → ℕ) a + S1x8x128.size a ≤ S1x1960x128.size a) (hB : ∀ a, (![0, 8, 0] : Fin 3 → ℕ) a + S1x1952x128.size a ≤ S1x1960x128.size a) :
    M.view.read (Elt F) (M.view.writes (Elt F) f
      [⟨Rect.unit (s := S1x1960x128) ![0, 8, 0] S1x1952x128.size hB, pB⟩, ⟨Rect.unit (s := S1x1960x128) ![0, 0, 0] S1x8x128.size hA, pA⟩])
      = fun j => if h : (j 1).val < 8 then pA (ix3 (j 0) (⟨(j 1).val, h⟩ : Fin 8) (j 2))
          else pB (ix3 (j 0) (⟨(j 1).val - 8, by have : (j 1).val < 1960 := (j 1).isLt; omega⟩ : Fin 1952) (j 2)) := by
  funext j
  have hj : (j 1).val < 1960 := (j 1).isLt
  by_cases h : (j 1).val < 8
  · rw [View.read_writes_cons_unit_of_not_mem M.view f hB pB _ j rfl (1 : Fin 3) (Or.inl h), dif_pos h]
    exact View.read_writes_cons_unit_of_mem M.view f hA pA _ j (ix3 (j 0) (⟨(j 1).val, h⟩ : Fin 8) (j 2)) rfl
      (fun a => by fin_cases a <;> exact (Nat.zero_add _).symm)
  · rw [dif_neg h]
    exact View.read_writes_cons_unit_of_mem M.view f hB pB _ j (ix3 (j 0) (⟨(j 1).val - 8, by omega⟩ : Fin 1952) (j 2)) rfl
      (fun a => by
        fin_cases a
        · exact (Nat.zero_add _).symm
        · show (j 1).val = 8 + ((j 1).val - 8); omega
        · exact (Nat.zero_add _).symm)

/-- What a block of 1023 rows holds after its first 512 rows and its other 511 are stored. -/
theorem read_colbert (M : Memref sig .tc .vmem S1x1023x1024 .f32) (f : M.view.ty.Contents (Elt F)) (pA : FVec F S1x512x1024 .f32) (pB : FVec F S1x511x1024 .f32)
    (hA : ∀ a, (![0, 0, 0] : Fin 3 → ℕ) a + S1x512x1024.size a ≤ S1x1023x1024.size a) (hB : ∀ a, (![0, 512, 0] : Fin 3 → ℕ) a + S1x511x1024.size a ≤ S1x1023x1024.size a) :
    M.view.read (Elt F) (M.view.writes (Elt F) f
      [⟨Rect.unit (s := S1x1023x1024) ![0, 512, 0] S1x511x1024.size hB, pB⟩, ⟨Rect.unit (s := S1x1023x1024) ![0, 0, 0] S1x512x1024.size hA, pA⟩])
      = fun j => if h : (j 1).val < 512 then pA (ix3 (j 0) (⟨(j 1).val, h⟩ : Fin 512) (j 2))
          else pB (ix3 (j 0) (⟨(j 1).val - 512, by have : (j 1).val < 1023 := (j 1).isLt; omega⟩ : Fin 511) (j 2)) := by
  funext j
  have hj : (j 1).val < 1023 := (j 1).isLt
  by_cases h : (j 1).val < 512
  · rw [View.read_writes_cons_unit_of_not_mem M.view f hB pB _ j rfl (1 : Fin 3) (Or.inl h), dif_pos h]
    exact View.read_writes_cons_unit_of_mem M.view f hA pA _ j (ix3 (j 0) (⟨(j 1).val, h⟩ : Fin 512) (j 2)) rfl
      (fun a => by fin_cases a <;> exact (Nat.zero_add _).symm)
  · rw [dif_neg h]
    exact View.read_writes_cons_unit_of_mem M.view f hB pB _ j (ix3 (j 0) (⟨(j 1).val - 512, by omega⟩ : Fin 511) (j 2)) rfl
      (fun a => by
        fin_cases a
        · exact (Nat.zero_add _).symm
        · show (j 1).val = 512 + ((j 1).val - 512); omega
        · exact (Nat.zero_add _).symm)

set_option maxHeartbeats 4000000 in
/-- The body at a grid point. -/
theorem kernelRun (c : Dev nD) (i : grid0.Coords) (arg1 : Memref sig .tc .vmem S1x1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x128 .f32) (harg4 : arg4.IsWhole) (arg5 : Memref sig .tc .smem S1 .f32) (harg5 : arg5.IsWhole) (arg6 : Memref sig .tc .smem S1x1x1024 .i32) (harg6 : arg6.IsWhole) (arg7 : Memref sig .tc .vmem S1x1x1024 .f32) (harg7 : arg7.IsWhole) (arg8 : Memref sig .tc .vmem S1x1960x128 .f32) (harg8 : arg8.IsWhole) (arg9 : Memref sig .tc .vmem S1x1023x1024 .f32) (harg9 : arg9.IsWhole) (arg10 : Memref sig .tc .vmem S1024x128 .f32) (harg10 : arg10.IsWhole) (arg11 : Memref sig .tc .vmem S1960x128 .f32) (harg11 : arg11.IsWhole) (arg12 : Memref sig .tc .vmem S1960x128 .f32) (harg12 : arg12.IsWhole) (arg13 : Memref sig .tc .vmem S1960x128 .f32) (harg13 : arg13.IsWhole) (arg14 : Memref sig .tc .vmem S1960x128 .f32) (harg14 : arg14.IsWhole) (arg15 : Memref sig .tc .vmem S1960x128 .f32) (harg15 : arg15.IsWhole) (arg16 : Memref sig .tc .vmem S1960x128 .f32) (harg16 : arg16.IsWhole) (arg17 : Memref sig .tc .vmem S1960x128 .f32) (harg17 : arg17.IsWhole) (arg18 : Memref sig .tc .vmem S1960x128 .f32) (harg18 : arg18.IsWhole) (x1 : Vec F S1x1024x1024 .f32) (x2 : Vec F S1024x1024 .f32) (x3 : Vec F S1x1024 .f32)
    (x4 : Vec F S1024x128 .f32) (x5 : Vec F S1 .f32) (x6 : Vec F S1x1x1024 .i32)
    (hx : ∀ y, BitVec.toNat (x6 y : BitVec 32) < 250002) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) : sProp 𝕄) ⊢
      wp frame (wpE (defs₀ (F := F)) Variants.none (c : Thread nD τ) none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
       (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (denseOut x1) ∗ owns (c : Thread nD τ) arg8 fullShare (sparseOut x1 x4 x5 x6)
         ∗ owns (c : Thread nD τ) arg9 fullShare (colbertOut x1 x2 x3) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))) := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩⟩
  sl_unfold [cc0__body]
  sl_exec
  sl_for (fun k (_ : Unit) => tripRes c arg6 arg10 arg11 arg12 arg13 arg14 arg15 arg16 arg17 arg18 x6 (weights x1 x4 x5) k) $$ [H6 H10 H11 H12 H13 H14 H15 H16 H17 H18]
  · intro k acc
    exact trip _ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ x6 (weights x1 x4 x5) hx k
  · unfold tripRes owns
    isplitl [H6]
    · iexists f6; isplitr; · ipureintro; exact h6
      iexact H6
    isplitl [H10]
    · iexists _; isplitr; swap; · iexact H10
      ipureintro; refine (View.read_writes_full _ _ _ _ _).trans ?_
      show k0_pay11 _ _ _ = weights x1 x4 x5
      unfold weights
      congr 1
      · exact (View.readAt_full _ _ _).trans h1
      · exact (View.readAt_full _ _ _).trans h4
      · rw [← h5]
        exact congrArg (View.read (Elt F) arg5.view f5) (funext fun a => by fin_cases a; exact Subsingleton.elim (α := Fin 1) _ _)
    isplitl [H11]
    · iexists _; isplitr; swap; · iexact H11
      ipureintro; exact View.read_writes_full _ _ _ _ _
    isplitl [H12]
    · iexists _; isplitr; swap; · iexact H12
      ipureintro; exact View.read_writes_full _ _ _ _ _
    isplitl [H13]
    · iexists _; isplitr; swap; · iexact H13
      ipureintro; exact View.read_writes_full _ _ _ _ _
    isplitl [H14]
    · iexists _; isplitr; swap; · iexact H14
      ipureintro; exact View.read_writes_full _ _ _ _ _
    isplitl [H15]
    · iexists _; isplitr; swap; · iexact H15
      ipureintro; exact View.read_writes_full _ _ _ _ _
    isplitl [H16]
    · iexists _; isplitr; swap; · iexact H16
      ipureintro; exact View.read_writes_full _ _ _ _ _
    isplitl [H17]
    · iexists _; isplitr; swap; · iexact H17
      ipureintro; exact View.read_writes_full _ _ _ _ _
    iexists _; isplitr; swap; · iexact H18
    ipureintro; exact View.read_writes_full _ _ _ _ _
  · unfold tripRes owns
    iintro %acc ⟨⟨%g6, %e6, H6⟩, ⟨%g10, %e10, H10⟩, ⟨%g11, %e11, H11⟩, ⟨%g12, %e12, H12⟩, ⟨%g13, %e13, H13⟩, ⟨%g14, %e14, H14⟩, ⟨%g15, %e15, H15⟩, ⟨%g16, %e16, H16⟩, ⟨%g17, %e17, H17⟩, ⟨%g18, %e18, H18⟩⟩
    sl_exec
    sl_step
    isplitl [H1]
    · iexists f1; isplitr; · ipureintro; exact h1
      iexact H1
    isplitl [H2]
    · iexists f2; isplitr; · ipureintro; exact h2
      iexact H2
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists g6; isplitr; · ipureintro; exact e6
      iexact H6
    isplitl [H7]
    · iexists _; isplitr; swap; · iexact H7
      ipureintro; refine (View.read_writes_full _ _ _ _ _).trans ?_
      subst h1; rfl
    isplitl [H8]
    · iexists _; isplitr; swap; · iexact H8
      ipureintro; refine (read_sparse arg8 f8 _ _ _ _).trans ?_
      have full : ∀ (M : Memref sig .tc .vmem S1960x128 .f32) (g : M.view.ty.Contents (Elt F)) (u : ℕ),
          M.view.read (Elt F) g = tabAt x6 (weights x1 x4 x5) u k0_t1_loop.trips →
          M.view.readAt (Elt F) (Rect.unit (s := S1960x128) ![0, 0] S1960x128.size inb_S1960x128_S1960x128_0_0).toLoadRect g = tab x1 x4 x5 x6 u :=
        fun M g u e => (View.readAt_full _ _ _).trans (e.trans (by rw [trips_eq]; rfl))
      have t0 := full _ _ _ e11
      have t1 := full _ _ _ e12
      have t2 := full _ _ _ e13
      have t3 := full _ _ _ e14
      have t4 := full _ _ _ e15
      have t5 := full _ _ _ e16
      have t6 := full _ _ _ e17
      have t7 := full _ _ _ e18
      unfold sparseOut
      rw [← t0, ← t1, ← t2, ← t3, ← t4, ← t5, ← t6, ← t7]
      rfl
    isplitl [H9]
    · iexists _; isplitr; swap; · iexact H9
      ipureintro; refine (read_colbert arg9 f9 _ _ _ _).trans ?_
      have t2 : arg2.view.readAt (Elt F) (Rect.unit (s := S1024x1024) ![0, 0] S1024x1024.size inb_S1024x1024_S1024x1024_0_0).toLoadRect f2 = x2 :=
        (View.readAt_full _ _ _).trans h2
      have t3 : arg3.view.readAt (Elt F) (Rect.unit (s := S1x1024) ![0, 0] S1x1024.size inb_S1x1024_S1x1024_0_0).toLoadRect f3 = x3 :=
        (View.readAt_full _ _ _).trans h3
      unfold colbertOut
      rw [← t2, ← t3, ← h1]
      rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Cert.KernelIdeal.Own

end
-- ==== Proof.Run.lean ====
/-
  The whole run (the program over the extended reals): every grid point runs its body, and the launch and the host lines around it end with every argument as it was.
-/
module

public import proofs.«01_k».proof.Proof.Body

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

local notation "𝕄" => MT nD τ sig Unit (Elt F) ℕ (UU nD τ) ℕ

/-- Every token id a grid point reads is below the vocabulary's size. -/
abbrev IdsLow : Prop := ∀ (c : Dev nD) (t : Fin cfg0.N) (y : S1x1x1024.Idx), BitVec.toNat (iblk m c 5 t y : BitVec 32) < 250002

/-- What the launch keeps: the arrays as the region finds them, inputs left in place, and the three result blocks of a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => denseOut (iblk m c 0 t)
    | ⟨7, _⟩ => sparseOut (iblk m c 0 t) (iblk m c 3 t) (iblk m c 4 t) (iblk m c 5 t)
    | ⟨8, _⟩ => colbertOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = denseOut (iblk m c 0 t) := by dsimp only [dats]
theorem after7 (c : Dev nD) (t : Fin cfg0.N) : (dats m 0 c).after 7 t = sparseOut (iblk m c 0 t) (iblk m c 3 t) (iblk m c 4 t) (iblk m c 5 t) := by dsimp only [dats]
theorem after8 (c : Dev nD) (t : Fin cfg0.N) : (dats m 0 c).after 8 t = colbertOut (iblk m c 0 t) (iblk m c 1 t) (iblk m c 2 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What a point starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What a point ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- A point of the grid. -/
theorem sound_body (hx : IdsLow m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8]
  unfold Pipeline.ΦA
  rw [scopedRest0_eq]
  iintro ⟨⟨⟨S0, S1, S2, S3, S4, S5, S6, S7, S8⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have run := kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (iblk m c 0 t) (iblk m c 1 t) (iblk m c 2 t) (iblk m c 3 t) (iblk m c 4 t) (iblk m c 5 t) (hx c t)
  simp only [owns_whole] at run
  iapply (wp_wand_r frame (wpE (defs₀ (F := F)) Variants.none (c : Thread nD τ) none) Set.univ)
  isplitl [H0 H1 H2 H3 H4 H5 H6 H7 H8 S0 S1 S2 S3 S4 S5 S6 S7 S8]
  · iapply run
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  · iintro %a ⟨H0, H1, H2, H3, H4, H5, H6, H7, H8, S0, S1, S2, S3, S4, S5, S6, S7, S8⟩
    isplitl [Hr S0 S1 S2 S3 S4 S5 S6 S7 S8]
    · isplitr [Hr]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body the launch runs at a point is the one above. -/
theorem defs₀_row (t : Fin cfg0.N) :
    defs₀ (F := F) .tc cfg0.body (cfg0.bodyArgs t (cfg0.slots t)) = bodyAt0 t := by
  unfold defs₀; rw [Defs.onTc_tc]

/-- What the launch asks of the body. -/
theorem body_obligation (hx : IdsLow m) (c : Dev nD) : BodyObligation (dats (F := F) m 0 c) (defs₀ (F := F)) Variants.none () Set.univ := fun t => by
  rw [bigSep_W0, bigSep_W0, defs₀_row]
  exact triple_restated (sound_body m hx c t) rfl .rfl fun _ => .rfl

variable (ρ : Dev nD → PrngReg)

/-- The whole run: it ends, with every array of the launch and every buffer around it at what the host lines after the launch leave, and every counter
    at zero. -/
theorem run_main (hx : IdsLow m) : θ_run defs (onTc (τ := τ) (main (F := F))) (s₀ m ρ)
    (fun r => FramePost cfgs (dats m) 0 (afterTail₀ cfgs (dats m) 0 (V0 m) [hostOps1]) r ∧ r.2.sem = fun _ => 0) :=
  θ_run_frame_around (Q' := _) (hQ' := fun _ h => h) cfgs (dats m) (0 : Fin 1) launch0 defs₀ Variants.none m ρ main
    (hbody := fun c => (body_obligation m hx c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run leaves every argument array as it was and every counter at zero. -/
theorem frame_main (hx : IdsLow m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_with_sems (frame_of m ρ (dats m) (A_eq m)) (run_main m ρ hx)

end Cert.KernelIdeal.Own

end
-- ==== Proof.Entry.lean ====
/-
  What a grid point reads (the program over the extended reals), at coordinates of the arguments, and where its result blocks lie.
-/
module

public import proofs.«01_k».proof.Proof.Run
public import Idealize.ShloMosaic.Lib.Pipeline.FrameTail
public import Idealize.ShloMosaic.Lib.Pipeline.Value
public import Idealize.ShloMosaic.Lib.ValueIdx

@[expose] public section

set_option maxRecDepth 16384

noncomputable section

namespace Cert.KernelIdeal.Own

open Cert.KernelIdeal Cert.KernelIdeal.Gen
open Idealize.ShloMosaic Idealize.ShloMosaic.TcCoe
open Idealize.ShloMosaic.ValueIdx (ix2 ix3)
open Idealize.SL.Sem

variable {F : FTy → Type} [FloatOps F]
variable (m : (ℓ : Loc nD τ sig) → Buf (Elt F) ℓ)

/-- The ids the launch reads: the argument with a middle axis of one. -/
theorem V_ids (c : Dev nD) : V m c main_call0_v2 = shapeCast S32x1x1024 (m ((c : Thread nD τ).loc main_arg2)) shapeCasts_S32x1024_S32x1x1024 := by
  show StableHlo.after hostOps0 (fun b => m (c, b)) (Proc.devRef .tc main_call0_v2) = _
  after_results
  rfl

/-- The sparse head's column, one copy a lane. -/
theorem V_wrep (c : Dev nD) : V m c main_call0_v1 = broadcastInDim S1024x128 ![0, 1] bcast_S1024x1_S1024x128_0_1 (m ((c : Thread nD τ).loc main_arg5)) := by
  show StableHlo.after hostOps0 (fun b => m (c, b)) (Proc.devRef .tc main_call0_v1) = _
  after_results
  rfl

/-- The colbert head's bias as a row. -/
theorem V_cb (c : Dev nD) : V m c main_call0_v0 = shapeCast S1x1024 (m ((c : Thread nD τ).loc main_arg4)) shapeCasts_S1024_S1x1024 := by
  show StableHlo.after hostOps0 (fun b => m (c, b)) (Proc.devRef .tc main_call0_v0) = _
  after_results
  rfl

/-- Where each window's block lies at each point. -/
theorem idx_facts : ∀ t : Fin cfg0.N,
    (win0_0.index t 0 = t.val ∧ win0_0.index t 1 = 0 ∧ win0_0.index t 2 = 0)
    ∧ (win0_1.index t 0 = 0 ∧ win0_1.index t 1 = 0) ∧ (win0_2.index t 0 = 0 ∧ win0_2.index t 1 = 0) ∧ (win0_3.index t 0 = 0 ∧ win0_3.index t 1 = 0)
    ∧ win0_4.index t 0 = 0
    ∧ (win0_5.index t 0 = t.val ∧ win0_5.index t 1 = 0 ∧ win0_5.index t 2 = 0)
    ∧ (win0_6.index t 0 = t.val ∧ win0_6.index t 1 = 0 ∧ win0_6.index t 2 = 0)
    ∧ (win0_7.index t 0 = t.val ∧ win0_7.index t 1 = 0 ∧ win0_7.index t 2 = 0)
    ∧ (win0_8.index t 0 = t.val ∧ win0_8.index t 1 = 0 ∧ win0_8.index t 2 = 0) := by decide

/-- A grid point as a sequence's number. -/
def seqOf (t : Fin cfg0.N) : Fin 32 := ⟨t.val, lt_of_lt_of_eq t.isLt N_0⟩

/-- Where an element of window 0's block lies in its array. -/
theorem emb0 (t : Fin cfg0.N) (z : S1x1024x1024.Idx) : ((cfg0.win 0).blk t).view.emb z = (ix3 (seqOf t) (z 1) (z 2) : S32x1024x1024.Idx) := by
  have hf := idx_facts t
  have h0 : (z 0).val = 0 := Nat.lt_one_iff.mp (z 0).isLt
  funext a; apply Fin.ext
  match a with
  | ⟨0, _⟩ => show win0_0.index t (0 : Fin 3) * 1 + 1 * (z 0).val = t.val; omega
  | ⟨1, _⟩ => show win0_0.index t (1 : Fin 3) * 1024 + 1 * (z 1).val = (z 1).val; omega
  | ⟨2, _⟩ => show win0_0.index t (2 : Fin 3) * 1024 + 1 * (z 2).val = (z 2).val; omega

/-- Where an element of window 1's block lies in its array. -/
theorem emb1 (t : Fin cfg0.N) (z : S1024x1024.Idx) : ((cfg0.win 1).blk t).view.emb z = z := by
  have hf := idx_facts t
  funext a; apply Fin.ext
  match a with
  | ⟨0, _⟩ => show win0_1.index t (0 : Fin 2) * 1024 + 1 * (z 0).val = (z 0).val; omega
  | ⟨1, _⟩ => show win0_1.index t (1 : Fin 2) * 1024 + 1 * (z 1).val = (z 1).val; omega

/-- Where an element of window 2's block lies in its array. -/
theorem emb2 (t : Fin cfg0.N) (z : S1x1024.Idx) : ((cfg0.win 2).blk t).view.emb z = z := by
  have hf := idx_facts t
  funext a; apply Fin.ext
  match a with
  | ⟨0, _⟩ => show win0_2.index t (0 : Fin 2) * 1 + 1 * (z 0).val = (z 0).val; omega
  | ⟨1, _⟩ => show win0_2.index t (1 : Fin 2) * 1024 + 1 * (z 1).val = (z 1).val; omega

/-- Where an element of window 3's block lies in its array. -/
theorem emb3 (t : Fin cfg0.N) (z : S1024x128.Idx) : ((cfg0.win 3).blk t).view.emb z = z := by
  have hf := idx_facts t
  funext a; apply Fin.ext
  match a with
  | ⟨0, _⟩ => show win0_3.index t (0 : Fin 2) * 1024 + 1 * (z 0).val = (z 0).val; omega
  | ⟨1, _⟩ => show win0_3.index t (1 : Fin 2) * 128 + 1 * (z 1).val = (z 1).val; omega

/-- Where an element of window 4's block lies in its array. -/
theorem emb4 (t : Fin cfg0.N) (z : S1.Idx) : ((cfg0.win 4).blk t).view.emb z = z := by
  have hf := idx_facts t
  funext a; apply Fin.ext
  match a with
  | ⟨0, _⟩ => show win0_4.index t (0 : Fin 1) * 1 + 1 * (z 0).val = (z 0).val; omega

/-- Where an element of window 5's block lies in its array. -/
theorem emb5 (t : Fin cfg0.N) (z : S1x1x1024.Idx) : ((cfg0.win 5).blk t).view.emb z = (ix3 (seqOf t) (z 1) (z 2) : S32x1x1024.Idx) := by
  have hf := idx_facts t
  have h0 : (z 0).val = 0 := Nat.lt_one_iff.mp (z 0).isLt
  funext a; apply Fin.ext
  match a with
  | ⟨0, _⟩ => show win0_5.index t (0 : Fin 3) * 1 + 1 * (z 0).val = t.val; omega
  | ⟨1, _⟩ => show win0_5.index t (1 : Fin 3) * 1 + 1 * (z 1).val = (z 1).val; omega
  | ⟨2, _⟩ => show win0_5.index t (2 : Fin 3) * 1024 + 1 * (z 2).val = (z 2).val; omega

/-- Where an element of window 6's block lies in its array. -/
theorem emb6 (t : Fin cfg0.N) (z : S1x1x1024.Idx) : ((cfg0.win 6).blk t).view.emb z = (ix3 (seqOf t) (z 1) (z 2) : S32x1x1024.Idx) := by
  have hf := idx_facts t
  have h0 : (z 0).val = 0 := Nat.lt_one_iff.mp (z 0).isLt
  funext a; apply Fin.ext
  match a with
  | ⟨0, _⟩ => show win0_6.index t (0 : Fin 3) * 1 + 1 * (z 0).val = t.val; omega
  | ⟨1, _⟩ => show win0_6.index t (1 : Fin 3) * 1 + 1 * (z 1).val = (z 1).val; omega
  | ⟨2, _⟩ => show win0_6.index t (2 : Fin 3) * 1024 + 1 * (z 2).val = (z 2).val; omega

/-- Where an element of window 7's block lies in its array. -/
theorem emb7 (t : Fin cfg0.N) (z : S1x1960x128.Idx) : ((cfg0.win 7).blk t).view.emb z = (ix3 (seqOf t) (z 1) (z 2) : S32x1960x128.Idx) := by
  have hf := idx_facts t
  have h0 : (z 0).val = 0 := Nat.lt_one_iff.mp (z 0).isLt
  funext a; apply Fin.ext
  match a with
  | ⟨0, _⟩ => show win0_7.index t (0 : Fin 3) * 1 + 1 * (z 0).val = t.val; omega
  | ⟨1, _⟩ => show win0_7.index t (1 : Fin 3) * 1960 + 1 * (z 1).val = (z 1).val; omega
  | ⟨2, _⟩ => show win0_7.index t (2 : Fin 3) * 128 + 1 * (z 2).val = (z 2).val; omega

/-- Where an element of window 8's block lies in its array. -/
theorem emb8 (t : Fin cfg0.N) (z : S1x1023x1024.Idx) : ((cfg0.win 8).blk t).view.emb z = (ix3 (seqOf t) (z 1) (z 2) : S32x1023x1024.Idx) := by
  have hf := idx_facts t
  have h0 : (z 0).val = 0 := Nat.lt_one_iff.mp (z 0).isLt
  funext a; apply Fin.ext
  match a with
  | ⟨0, _⟩ => show win0_8.index t (0 : Fin 3) * 1 + 1 * (z 0).val = t.val; omega
  | ⟨1, _⟩ => show win0_8.index t (1 : Fin 3) * 1023 + 1 * (z 1).val = (z 1).val; omega
  | ⟨2, _⟩ => show win0_8.index t (2 : Fin 3) * 1024 + 1 * (z 2).val = (z 2).val; omega

/-- The hidden states a point reads. -/
theorem blk_x (c : Dev nD) (t : Fin cfg0.N) (z : S1x1024x1024.Idx) :
    iblk m c 0 t z = (m ((c : Thread nD τ).loc main_arg0) : Vec F S32x1024x1024 .f32) (ix3 (seqOf t) (z 1) (z 2)) := by
  show V m c main_arg0 (((cfg0.win 0).blk t).view.emb z) = _
  rw [emb0, V_main_arg0]

/-- The colbert matrix a point reads. -/
theorem blk_w (c : Dev nD) (t : Fin cfg0.N) : iblk m c 1 t = (m ((c : Thread nD τ).loc main_arg3) : Vec F S1024x1024 .f32) := by
  funext z
  show V m c main_arg3 (((cfg0.win 1).blk t).view.emb z) = _
  rw [emb1, V_main_arg3]

/-- The colbert bias a point reads. -/
theorem blk_cb (c : Dev nD) (t : Fin cfg0.N) : iblk m c 2 t = shapeCast S1x1024 (m ((c : Thread nD τ).loc main_arg4) : Vec F S1024 .f32) shapeCasts_S1024_S1x1024 := by
  funext z
  show V m c main_call0_v0 (((cfg0.win 2).blk t).view.emb z) = _
  rw [emb2, V_cb]

/-- The sparse column a point reads. -/
theorem blk_wrep (c : Dev nD) (t : Fin cfg0.N) :
    iblk m c 3 t = broadcastInDim S1024x128 ![0, 1] bcast_S1024x1_S1024x128_0_1 (m ((c : Thread nD τ).loc main_arg5) : Vec F S1024x1 .f32) := by
  funext z
  show V m c main_call0_v1 (((cfg0.win 3).blk t).view.emb z) = _
  rw [emb3, V_wrep]

/-- The sparse bias a point reads. -/
theorem blk_sb (c : Dev nD) (t : Fin cfg0.N) : iblk m c 4 t = (m ((c : Thread nD τ).loc main_arg6) : Vec F S1 .f32) := by
  funext z
  show V m c main_arg6 (((cfg0.win 4).blk t).view.emb z) = _
  rw [emb4, V_main_arg6]

/-- The ids a point reads. -/
theorem blk_ids (c : Dev nD) (t : Fin cfg0.N) (z : S1x1x1024.Idx) :
    iblk m c 5 t z = (m ((c : Thread nD τ).loc main_arg2) : IVec S32x1024 32) (ix2 (seqOf t) (z 2)) := by
  show V m c main_call0_v2 (((cfg0.win 5).blk t).view.emb z) = _
  rw [emb5, V_ids]
  have h1 : (z 1).val = 0 := Nat.lt_one_iff.mp (z 1).isLt
  have hk : (S32x1024.rowMajor (ix2 (seqOf t) (z 2 : Fin 1024))).val = (S32x1x1024.rowMajor (ix3 (seqOf t) (z 1 : Fin 1) (z 2 : Fin 1024))).val := by
    rw [Shape.rowMajor_val_two, Shape.rowMajor_val_three]
    show (seqOf t).val * 1024 + (z 2).val = ((seqOf t).val * 1 + (z 1).val) * 1024 + (z 2).val
    omega
  exact shapeCast_apply (s := S32x1024) (t := S32x1x1024) _ _ _ _ hk

/-- Ids below the vocabulary's size in the argument are so at every point. -/
theorem idsLow_of (h : ∀ (c : Dev nD) (y : S32x1024.Idx), ((m ((c : Thread nD τ).loc main_arg2) : IVec S32x1024 32) y).toNat < 250002) : IdsLow m :=
  fun c t y => by rw [blk_ids]; exact h c _

end Cert.KernelIdeal.Own

end
-- ==== Proof.Frames.lean ====
/-
  The frames of the three programs, as the certificate states them: the kernel over words and over the extended reals
  (Run.lean and its word twin, with the ids' range read off the precondition), and the reference (a straight line of host
  operations that declares no semaphore).
-/
module

public import proofs.«01_k».proof.Defs
public import proofs.«01_k».proof.Proof.Ids
public import proofs.«01_k».proof.Proof.Entry
public import proofs.«01_k».proof.Proof.WordEntry
public import proofs.«01_k».proof.Proof.Gen.ReferenceIdeal.Run

@[expose] public section

set_option maxRecDepth 16384

noncomputable section

namespace Cert.Proof.Frames

open Idealize.ShloMosaic Idealize.ShloMosaic.TcCoe Idealize.SL.Sem

/-- The kernel over words. -/
theorem kernel : Cert.quiescent_Kernel := fun m g h =>
  Cert.Kernel.Own.frame_main m g (Cert.Kernel.Own.idsLow_of m fun c y => Cert.Ids.low _ _ _ _ _ _ _ (h c) y)

/-- The kernel over the extended reals. -/
theorem kernelIdeal : Cert.quiescent_KernelIdeal := fun m g h =>
  Cert.KernelIdeal.Own.frame_main m g (Cert.KernelIdeal.Own.idsLow_of m fun c y => Cert.Ids.low _ _ _ _ _ _ _ (h c) y)

/-- The same under the precondition of the value claim. -/
theorem kernelIdeal' : Cert.quiescent_KernelIdeal_pre_ids_in_vocab_mask_ones := fun m g h =>
  Cert.KernelIdeal.Own.frame_main m g (Cert.KernelIdeal.Own.idsLow_of m fun c y => Cert.Ids.low' _ _ _ _ _ _ _ (h c) y)

/-- The reference. -/
theorem reference : Cert.quiescent_ReferenceIdeal := fun m g _ =>
  (θ_run Cert.ReferenceIdeal.defs _ _).mono
    (fun r h => ⟨fun c => (h c).2.2.2, sem_eq_zero_of_no_sems (by decide) r.2⟩)
    (Cert.ReferenceIdeal.Value.run (F := Ideal) m g)

/-- The reference under the precondition of the value claim. -/
theorem reference' : Cert.quiescent_ReferenceIdeal_pre_ids_in_vocab_mask_ones := fun m g _ => reference m g trivial

end Cert.Proof.Frames

end
-- ==== Proof.Heads.lean ====
/-
  What one sequence's block of each head is at an index, over the extended reals: the dense row and the colbert rows are a
  row over the larger of its norm and a small constant, and a token's weight is the positive part of an inner product.
-/
module

public import proofs.«01_k».proof.Proof.Body
public import Idealize.ShloMosaic.Lib.Pointwise
public import Idealize.ShloMosaic.Lib.IdealHost

@[expose] public section

set_option maxRecDepth 16384

noncomputable section

namespace Cert.KernelIdeal.Own

open Cert.KernelIdeal Cert.KernelIdeal.Gen
open Idealize.ShloMosaic Idealize.ShloMosaic.TcCoe

/-- The two spellings of an index of three coordinates are one. -/
theorem vix3 {a b c : ℕ} (i : Fin a) (j : Fin b) (k : Fin c) : ValueIdx.ix3 i j k = ix3 i j k := by
  rw [eq_ix3 (ValueIdx.ix3 i j k)]; rfl

/-- The two spellings of an index of two coordinates are one. -/
theorem vix2 {a b : ℕ} (i : Fin a) (j : Fin b) : ValueIdx.ix2 i j = ix2 i j := by
  rw [eq_ix2 (ValueIdx.ix2 i j)]; rfl

/-- Some rows of a block, at an index. -/
theorem window_rows {α : Type} (x : S1x1024x1024.Idx → α) (o n : ℕ) (inb) (i : Fin 1) (a : Fin n) (b : Fin 1024) (h : o + a.val < 1024) :
    VecWindow.window x ![0, o, 0] ![1, n, 1024] inb (ix3 i a b) = x (ix3 0 ⟨o + a.val, h⟩ b) := by
  refine congrArg x (funext fun d => Fin.ext ?_)
  show (![0, o, 0] : Fin 3 → ℕ) d + 1 * _ = _
  fin_cases d
  · show 0 + 1 * i.val = 0; omega
  · show o + 1 * a.val = o + a.val; omega
  · show 0 + 1 * b.val = b.val; omega

/-- The small constant under which a norm is not divided by. -/
def eps : EReal := Ideal.ofBits .f32 0x2B8CBCCC#32

/-- A row's entry over the larger of the row's norm and the small constant. -/
def unit (y : Fin 1024 → EReal) (h : Fin 1024) : EReal := y h * Ideal.div 1 (max (Ideal.sqrt (∑ k, y k * y k)) eps)

/-- The dense block at an index. -/
theorem denseOut_apply (x1 : Vec Ideal S1x1024x1024 .f32) (j : S1x1x1024.Idx) :
    denseOut x1 j = unit (fun k => x1 (ix3 0 0 k)) (j 2) := by
  obtain ⟨i, a, b, rfl⟩ : ∃ i a b, j = ix3 i a b := ⟨_, _, _, eq_ix3 j⟩
  have h : ∀ (a : Fin 1) (b : Fin 1024), VecWindow.window x1 ![0, 0, 0] ![1, 1, 1024] inb_S1x1024x1024_S1x1x1024_0_0_0 (ix3 0 a b) = x1 (ix3 0 0 b) :=
    fun a b => (window_rows x1 0 1 _ 0 a b (by omega)).trans (congrArg (fun r => x1 (ix3 0 r b)) (Fin.ext (by simp)))
  unfold denseOut unit k0_pay10 eps
  pointwise
  simp only [h]

/-- A token's weight. -/
theorem weights_apply (x1 : Vec Ideal S1x1024x1024 .f32) (x4 : Vec Ideal S1024x128 .f32) (x5 : Vec Ideal S1 .f32) (j : S1024x128.Idx) :
    weights x1 x4 x5 j = max ((∑ k : Fin 1024, x1 (ix3 0 (j 0) k) * x4 (ix2 k (j 1))) + x5 (ix1 0)) 0 := by
  unfold weights k0_pay11
  pointwise
  rw [show (Shape.Idx.first weights._proof_1 : S1.Idx) = ix1 0 from funext fun d => by fin_cases d; rfl]

/-- A row of the colbert head before it is scaled. -/
def colRow (x1 : Vec Ideal S1x1024x1024 .f32) (x2 : Vec Ideal S1024x1024 .f32) (x3 : Vec Ideal S1x1024 .f32) (s : Fin 1024) (o : Fin 1024) : EReal :=
  (∑ k : Fin 1024, x1 (ix3 0 s k) * x2 (ix2 o k)) + x3 (ix2 0 o)

/-- The colbert block at an index: row `s` is of token `s + 1`. -/
theorem colbertOut_apply (x1 : Vec Ideal S1x1024x1024 .f32) (x2 : Vec Ideal S1024x1024 .f32) (x3 : Vec Ideal S1x1024 .f32) (j : S1x1023x1024.Idx) :
    colbertOut x1 x2 x3 j = unit (colRow x1 x2 x3 ⟨(j 1).val + 1, by have : (j 1).val < 1023 := (j 1).isLt; omega⟩) (j 2) := by
  obtain ⟨i, a, b, rfl⟩ : ∃ i a b, j = ix3 i a b := ⟨_, _, _, eq_ix3 j⟩
  have ha : a.val < 1023 := a.isLt
  unfold colbertOut unit eps colRow
  split
  · rename_i h
    have h : a.val < 512 := h
    have e : ∀ b, VecWindow.window x1 ![0, 1, 0] ![1, 512, 1024] inb_S1x1024x1024_S1x512x1024_0_1_0 (ix3 0 ⟨a.val, h⟩ b) = x1 (ix3 0 ⟨a.val + 1, by omega⟩ b) :=
      fun b => (window_rows x1 1 512 _ 0 _ b (by show 1 + a.val < 1024; omega)).trans (congrArg (fun r => x1 (ix3 0 r b)) (Fin.ext (by show 1 + a.val = a.val + 1; omega)))
    refine (congrArg (k0_pay28 _ _) (vix3 i (⟨a.val, h⟩ : Fin 512) b)).trans ?_
    unfold k0_pay28 k0_pay26 k0_pay27
    pointwise
    simp only [e]
  · rename_i h
    have h : ¬ a.val < 512 := h
    have e : ∀ (q : _) b, VecWindow.window x1 ![0, 512, 0] ![1, 512, 1024] inb_S1x1024x1024_S1x512x1024_0_512_0 (ix3 0 ⟨1 + (a.val - 512), q⟩ b) = x1 (ix3 0 ⟨a.val + 1, by omega⟩ b) :=
      fun q b => (window_rows x1 512 512 _ 0 _ b (by show 512 + (1 + (a.val - 512)) < 1024; omega)).trans (congrArg (fun r => x1 (ix3 0 r b)) (Fin.ext (by show 512 + (1 + (a.val - 512)) = a.val + 1; omega)))
    refine (congrArg (k0_pay29 _ _ _) (vix3 i (⟨a.val - 512, by omega⟩ : Fin 511) b)).trans ?_
    unfold k0_pay29
    pointwise
    simp only [e]

end Cert.KernelIdeal.Own

end
-- ==== Proof.Target.lean ====
/-
  What the three heads compute over the extended reals, from the arguments read at coordinates.
-/
module

public import proofs.«01_k».proof.Proof.Heads

@[expose] public section

noncomputable section

namespace Cert.Target

open Cert.KernelIdeal.Own (unit eps)

/-- The dense head: a sequence's first row, over its norm. -/
def dense (x : Fin 32 → Fin 1024 → Fin 1024 → EReal) (s : Fin 32) (h : Fin 1024) : EReal := unit (x s 0) h

/-- A token's weight: the positive part of its inner product with the sparse column, with the bias. -/
def weight (x : Fin 32 → Fin 1024 → Fin 1024 → EReal) (w : Fin 1024 → EReal) (b : EReal) (s : Fin 32) (p : Fin 1024) : EReal :=
  max ((∑ k, x s p k * w k) + b) 0

/-- The sparse head: the largest weight among a sequence's tokens of the id, and zero at the first four ids. -/
def sparse (x : Fin 32 → Fin 1024 → Fin 1024 → EReal) (w : Fin 1024 → EReal) (b : EReal) (ids : Fin 32 → Fin 1024 → BitVec 32) (s : Fin 32) (v : ℕ) : EReal :=
  if v < 4 then 0 else Finset.univ.sup fun p => if (ids s p).toNat = v then weight x w b s p else 0

/-- The colbert head: every token's row but the first, through a matrix with a bias, over its norm. -/
def colbert (x : Fin 32 → Fin 1024 → Fin 1024 → EReal) (w : Fin 1024 → Fin 1024 → EReal) (b : Fin 1024 → EReal) (s : Fin 32) (r : Fin 1023) (h : Fin 1024) : EReal :=
  unit (fun o => (∑ k, x s ⟨r.val + 1, by omega⟩ k * w o k) + b o) h

end Cert.Target

end
-- ==== Proof.Tables.lean ====
/-
  What the kernel's eight tables hold, over the extended reals. Token `8 k + u` of trip `k` goes into table `u`: into the row
  and lane its id names, the larger of what was there and the token's weight. So a table's entry is the largest weight of the
  table's tokens with that id, or zero; the largest of the eight entries is the largest over all tokens.
-/
module

public import proofs.«01_k».proof.Proof.Heads

@[expose] public section

set_option maxRecDepth 16384

noncomputable section

namespace Cert.KernelIdeal.Own

open Cert.KernelIdeal Cert.KernelIdeal.Gen
open Idealize.ShloMosaic Idealize.ShloMosaic.TcCoe

/-- A selection by a bit that says `P` is the choice by `P`. -/
theorem select_iff {α : Type} {P : Prop} [Decidable P] (c : BitVec 1) (x y : α) (h : c = 1#1 ↔ P) :
    Scalar.select c x y = if P then x else y := by
  show (if c = 1#1 then x else y) = _
  by_cases hP : P
  · rw [if_pos hP, if_pos (h.2 hP)]
  · rw [if_neg hP, if_neg fun e => hP (h.1 e)]

/-- The conjunction of two bits is set when both are. -/
theorem andi_iff : ∀ a b : BitVec 1, IntOp.andi a b = 1#1 ↔ a = 1#1 ∧ b = 1#1 := by decide

/-- The disjunction of two bits is set when one is. -/
theorem ori_iff : ∀ a b : BitVec 1, IntOp.ori a b = 1#1 ↔ a = 1#1 ∨ b = 1#1 := by decide

/-- The comparison for equality says that the words are equal. -/
theorem eq_iff {n : ℕ} (x y : BitVec n) : IntOp.cmpi .eq x y = 1#1 ↔ x = y := by
  unfold IntOp.cmpi
  by_cases h : x = y
  · simp [h]
  · have e : (x == y) = false := beq_false_of_ne h
    simp only [e, h, iff_false]
    decide

/-- What one token does to the eight rows its id names, at an index: token `u` of its group of eight, its id `w`. -/
theorem tokRows_apply (i w : BitVec 32) (u : Fin 8) (hw : w.toNat < 250002) (hi : i.toNat < 2 ^ 31) (hu : i.toNat % 8 = u.val)
    (z old : FVec Ideal S8x128 .f32) (r : Fin 8) (l : Fin 128) :
    tokRows i w z old (ix2 r l)
      = max (old (ix2 r l)) (if r.val = w.toNat / 128 % 8 ∧ l.val = w.toNat % 128 then z (ix2 u l) else 0) := by
  have hr := Words.toNat_sub_row w (by omega)
  have hl := Words.toNat_lane w
  have ht := Words.toNat_rot w i (by omega) hi
  have e1 : (BitVec.ofNat 32 r.val = Scalar.andi (Scalar.shrsi w 7#32) 7#32) ↔ r.val = w.toNat / 128 % 8 := by
    rw [← BitVec.toNat_inj, hr, BitVec.toNat_ofNat, Nat.mod_eq_of_lt (by omega)]
  have e2 : (BitVec.ofNat 32 l.val = Scalar.andi w 127#32) ↔ l.val = w.toNat % 128 := by
    rw [← BitVec.toNat_inj, hl, BitVec.toNat_ofNat, Nat.mod_eq_of_lt (by omega)]
  unfold tokRows
  generalize Scalar.andi (Scalar.shrsi w 7#32) 7#32 = a at *
  generalize Scalar.andi w 127#32 = b at *
  generalize Scalar.andi (Scalar.subi (Scalar.shrsi w 7#32) i) 7#32 = d at *
  pointwise
  rw [select_iff (P := r.val = w.toNat / 128 % 8 ∧ l.val = w.toNat % 128) _ _ _
    (by rw [andi_iff, eq_iff, eq_iff, e1, e2])]
  congr 1
  split
  · rename_i h
    exact congrArg (fun q => z (ix2 q l)) (Fin.ext (by show (r.val + 8 - d.toNat % 8) % 8 = u.val; omega))
  · rfl

/-- A window of eight rows, at an index. -/
theorem window_group (A : Vec Ideal S1960x128 .f32) (off : Fin 2 → ℕ) (inb) (h1 : off 1 = 0) (y : S8x128.Idx) (q : S1960x128.Idx)
    (hr : (q 0).val = off 0 + (y 0).val) (hl : (q 1).val = (y 1).val) :
    VecWindow.window A off S8x128.size inb y = A q := by
  refine congrArg A (funext fun d => Fin.ext ?_)
  show off d + 1 * (y d).val = (q d).val
  fin_cases d
  · show off 0 + 1 * (y 0).val = (q 0).val; omega
  · show off 1 + 1 * (y 1).val = (q 1).val; omega

/-- A table after one token, at an index, where nothing in the table is negative. -/
theorem tokPut_apply (i w : BitVec 32) (u : Fin 8) (hw : w.toNat < 250002) (hi : i.toNat < 2 ^ 31) (hu : i.toNat % 8 = u.val)
    (z : FVec Ideal S8x128 .f32) (A : Vec Ideal S1960x128 .f32) (R : Fin 1960) (l : Fin 128) (hA : 0 ≤ A (ix2 R l)) :
    tokPut i w z A (ix2 R l) = max (A (ix2 R l)) (if w.toNat = 128 * R.val + l.val then z (ix2 u l) else 0) := by
  have hg : k0_off3 w 0 = 8 * (w.toNat / 1024) := Words.toNat_group w (by omega)
  have h1 : k0_off3 w 1 = 0 := rfl
  unfold tokPut
  rw [dif_pos (chk_of_lt w hw)]
  unfold VecWindow.put
  by_cases h : ∀ a, k0_off3 w a ≤ ((ix2 R l : S1960x128.Idx) a).val ∧ ((ix2 R l : S1960x128.Idx) a).val < k0_off3 w a + S8x128.size a
  · rw [dif_pos h]
    have h0 : k0_off3 w 0 ≤ R.val ∧ R.val < k0_off3 w 0 + 8 := h 0
    have e : (Rect.unitLocal (s := S1960x128) (off := k0_off3 w) (size := S8x128.size) (ix2 R l) h : S8x128.Idx)
        = ix2 (⟨R.val - k0_off3 w 0, by omega⟩ : Fin 8) l := by
      refine (eq_ix2 (n0 := 8) (n1 := 128) _).trans ?_
      congr 1
    refine (congrArg (tokRows i w z _) e).trans ?_
    rw [tokRows_apply i w u hw hi hu z _ _ l]
    rw [window_group A _ _ h1 (ix2 (⟨R.val - k0_off3 w 0, by omega⟩ : Fin 8) l) (ix2 R l) (by show R.val = k0_off3 w 0 + (R.val - k0_off3 w 0); omega) rfl]
    congr 1
    refine if_congr ?_ rfl rfl
    have := l.isLt
    show R.val - k0_off3 w 0 = _ ∧ _ ↔ _
    constructor
    · intro h; omega
    · intro h; constructor <;> omega
  · rw [dif_neg h, if_neg, max_eq_left hA]
    intro e
    have := l.isLt
    refine h fun a => ?_
    fin_cases a
    · show k0_off3 w 0 ≤ R.val ∧ R.val < k0_off3 w 0 + 8; omega
    · show k0_off3 w 1 ≤ l.val ∧ l.val < k0_off3 w 1 + 128; omega

/-- What token `p` offers the entry at row `R` and lane `l`: its weight if its id is that entry's, else zero. -/
def offer (x6 : Vec Ideal S1x1x1024 .i32) (xz : Vec Ideal S1024x128 .f32) (R : Fin 1960) (l : Fin 128) (p : Fin 1024) : EReal :=
  if (x6 (ix3 0 0 p) : BitVec 32).toNat = 128 * R.val + l.val then xz (ix2 p l) else 0

section

variable (x6 : Vec Ideal S1x1x1024 .i32) (xz : Vec Ideal S1024x128 .f32) (hx : ∀ p, (x6 (ix3 0 0 p) : BitVec 32).toNat < 250002)
  (R : Fin 1960) (l : Fin 128)

include hx

/-- One trip, at an entry. -/
theorem tab_step (u : Fin 8) (k : ℕ) (hk : k < 128) (h0 : 0 ≤ tabAt x6 xz u.val k (ix2 R l)) :
    tabAt x6 xz u.val (k + 1) (ix2 R l)
      = max (tabAt x6 xz u.val k (ix2 R l)) (offer x6 xz R l ⟨8 * k + u.val, by omega⟩) := by
  have hp : (8 * k + u.val) % 1024 = 8 * k + u.val := Nat.mod_eq_of_lt (by omega)
  have hword : wordAt x6 (8 * k + u.val) = x6 (ix3 0 0 ⟨8 * k + u.val, by omega⟩) := by
    unfold wordAt
    rw [vix3]
    exact congrArg (fun q => x6 (ix3 0 0 q)) (Fin.ext hp)
  have hrow : rows8 xz k (ix2 u l) = xz (ix2 ⟨8 * k + u.val, by omega⟩ l) := by
    unfold rows8
    refine (congrArg xz (vix2 (a := 1024) (b := 128) _ _)).trans ?_
    exact congrArg (fun q => xz (ix2 q l)) (Fin.ext hp)
  have ht : (BitVec.ofNat 32 (8 * k + u.val)).toNat = 8 * k + u.val := by
    rw [BitVec.toNat_ofNat, Nat.mod_eq_of_lt (by omega)]
  show tokPut _ _ _ _ _ = _
  rw [tokPut_apply _ _ u (by rw [hword]; exact hx _) (by rw [ht]; omega) (by rw [ht]; omega) _ _ R l h0, hword, hrow]
  rfl

/-- No entry is negative. -/
theorem tab_nonneg (u : Fin 8) : ∀ k ≤ 128, 0 ≤ tabAt x6 xz u.val k (ix2 R l)
  | 0, _ => by
    show 0 ≤ k0_pay13 (F := Ideal) (ix2 R l)
    unfold k0_pay13 k0_pay12
    pointwise
    exact le_rfl
  | k + 1, h => by
    have h0 := tab_nonneg u k (by omega)
    rw [tab_step x6 xz hx R l u k (by omega) h0]
    exact le_max_of_le_left h0

/-- An entry is at least what each of the table's tokens offers it; -/
theorem offer_le_tab (u : Fin 8) : ∀ (k : ℕ) (hk : k ≤ 128) (j : ℕ) (hj : j < k),
    offer x6 xz R l ⟨8 * j + u.val, by omega⟩ ≤ tabAt x6 xz u.val k (ix2 R l)
  | 0, _, _, hj => absurd hj (by omega)
  | k + 1, h, j, hj => by
    rw [tab_step x6 xz hx R l u k (by omega) (tab_nonneg x6 xz hx R l u k (by omega))]
    rcases Nat.lt_succ_iff_lt_or_eq.1 hj with hj | rfl
    · exact le_max_of_le_left (offer_le_tab u k (by omega) j hj)
    · exact le_max_right _ _

/-- and at most what bounds zero and every offer. -/
theorem tab_le (B : EReal) (hB : 0 ≤ B) (hb : ∀ p, offer x6 xz R l p ≤ B) (u : Fin 8) : ∀ k ≤ 128, tabAt x6 xz u.val k (ix2 R l) ≤ B
  | 0, _ => by
    refine le_trans (le_of_eq ?_) hB
    show k0_pay13 (F := Ideal) (ix2 R l) = 0
    unfold k0_pay13 k0_pay12
    pointwise
  | k + 1, h => by
    rw [tab_step x6 xz hx R l u k (by omega) (tab_nonneg x6 xz hx R l u k (by omega))]
    exact max_le (tab_le B hB hb u k (by omega)) (hb _)

/-- The largest of the eight entries is the largest offer of all tokens, where no weight is negative. -/
theorem comb_eq (hz : ∀ i, 0 ≤ xz i) (T : Fin 8 → EReal) (hT : ∀ u : Fin 8, T u = tabAt x6 xz u.val 128 (ix2 R l)) :
    max (max (max (T 0) (T 1)) (max (T 2) (T 3))) (max (max (T 4) (T 5)) (max (T 6) (T 7)))
      = Finset.univ.sup (offer x6 xz R l) := by
  have h0 : 0 ≤ Finset.univ.sup (offer x6 xz R l) := by
    refine le_trans ?_ (Finset.le_sup (f := offer x6 xz R l) (Finset.mem_univ 0))
    unfold offer
    split
    · exact hz _
    · exact le_rfl
  have hle : ∀ u, T u ≤ Finset.univ.sup (offer x6 xz R l) := fun u => by
    rw [hT u]; exact tab_le x6 xz hx R l _ h0 (fun p => Finset.le_sup (Finset.mem_univ p)) u 128 le_rfl
  refine le_antisymm (max_le (max_le (max_le (hle _) (hle _)) (max_le (hle _) (hle _)))
    (max_le (max_le (hle _) (hle _)) (max_le (hle _) (hle _)))) (Finset.sup_le fun p _ => ?_)
  have hp := offer_le_tab x6 xz hx R l ⟨p.val % 8, Nat.mod_lt _ (by decide)⟩ 128 le_rfl (p.val / 8) (by omega)
  rw [← hT] at hp
  rw [show (⟨8 * (p.val / 8) + p.val % 8, by omega⟩ : Fin 1024) = p from Fin.ext (by show 8 * (p.val / 8) + p.val % 8 = p.val; omega)] at hp
  refine hp.trans ?_
  generalize (⟨p.val % 8, Nat.mod_lt _ (by decide)⟩ : Fin 8) = u
  fin_cases u <;> simp

end

end Cert.KernelIdeal.Own

end
-- ==== Proof.Sparse.lean ====
/-
  The sparse block of one sequence at an index, over the extended reals: zero at the first four ids, and at any other the
  largest of what the tokens offer it.
-/
module

public import proofs.«01_k».proof.Proof.Tables

@[expose] public section

set_option maxRecDepth 16384

noncomputable section

namespace Cert.KernelIdeal.Own

open Cert.KernelIdeal Cert.KernelIdeal.Gen
open Idealize.ShloMosaic Idealize.ShloMosaic.TcCoe

/-- No token's weight is negative. -/
theorem weights_nonneg (x1 : Vec Ideal S1x1024x1024 .f32) (x4 : Vec Ideal S1024x128 .f32) (x5 : Vec Ideal S1 .f32) (j : S1024x128.Idx) :
    0 ≤ weights x1 x4 x5 j := by
  rw [weights_apply]; exact le_max_right _ _

/-- The signed comparison of a small word with four says that its number is below four. -/
theorem slt_four_iff (n : ℕ) (h : n < 128) : IntOp.cmpi .slt (BitVec.ofNat 32 n) 4#32 = 1#1 ↔ n < 4 := by
  have e : (BitVec.ofNat 32 n).slt 4#32 = decide (n < 4) := by
    have h1 : (BitVec.ofNat 32 n).toInt = n := by
      rw [BitVec.toInt_eq_toNat_of_lt] <;> rw [BitVec.toNat_ofNat, Nat.mod_eq_of_lt (by omega)]; omega
    rw [BitVec.slt_eq_decide, h1]
    exact decide_eq_decide.2 (by show (n : ℤ) < 4 ↔ _; omega)
  show BitVec.ofBool ((BitVec.ofNat 32 n).slt 4#32) = 1#1 ↔ _
  rw [e]
  by_cases h4 : n < 4 <;> simp [h4]

/-- The sparse block at an index. -/
theorem sparseOut_apply (x1 : Vec Ideal S1x1024x1024 .f32) (x4 : Vec Ideal S1024x128 .f32) (x5 : Vec Ideal S1 .f32) (x6 : Vec Ideal S1x1x1024 .i32)
    (hx : ∀ p, (x6 (ix3 0 0 p) : BitVec 32).toNat < 250002) (i : Fin 1) (R : Fin 1960) (l : Fin 128) :
    sparseOut x1 x4 x5 x6 (ix3 i R l)
      = if R.val = 0 ∧ l.val < 4 then 0 else Finset.univ.sup (offer x6 (weights x1 x4 x5) R l) := by
  have hc := comb_eq x6 (weights x1 x4 x5) hx R l (weights_nonneg x1 x4 x5)
    (fun u => tab x1 x4 x5 x6 u.val (ix2 R l)) fun u => rfl
  rw [← hc]
  generalize hT : tab x1 x4 x5 x6 = T
  unfold sparseOut
  rw [hT]
  split
  · rename_i h
    have h : R.val < 8 := h
    refine (congrArg (k0_pay24 _ _ _ _ _ _ _ _ _) (vix3 i (⟨R.val, h⟩ : Fin 8) l)).trans ?_
    unfold k0_pay24 k0_pay23 k0_pay22
    pointwise
    have e : BitVec.ofNat 32 R.val = 0#32 ↔ R.val = 0 := by
      rw [← BitVec.toNat_inj, BitVec.toNat_ofNat, Nat.mod_eq_of_lt (by omega)]; rfl
    rw [select_iff (P := R.val = 0 ∧ l.val < 4) _ _ _ (by rw [andi_iff, eq_iff, slt_four_iff _ l.isLt, e])]
  · rename_i h
    have h : ¬ R.val < 8 := h
    have hR := R.isLt
    refine (congrArg (k0_pay25 _ _ _ _ _ _ _) (vix3 i (⟨R.val - 8, by omega⟩ : Fin 1952) l)).trans ?_
    unfold k0_pay25 k0_pay23 k0_pay22
    pointwise
    rw [if_neg (by omega)]
    have e : ∀ q, (⟨8 + (R.val - 8), q⟩ : Fin 1960) = R := fun q => Fin.ext (by show 8 + (R.val - 8) = R.val; omega)
    simp only [e]

end Cert.KernelIdeal.Own

end
-- ==== Proof.Arrays.lean ====
/-
  What the launch and the host lines after it leave in the three results, at an index, from the arguments.
-/
module

public import proofs.«01_k».proof.Proof.Target
public import proofs.«01_k».proof.Proof.Sparse
public import proofs.«01_k».proof.Proof.Entry
public import Idealize.ShloMosaic.Lib.Pipeline.ValueKit.Geometry

@[expose] public section

set_option maxRecDepth 16384

noncomputable section

namespace Cert.KernelIdeal.Own

open Cert.KernelIdeal Cert.KernelIdeal.Gen
open Idealize.ShloMosaic Idealize.ShloMosaic.TcCoe

variable (m : (ℓ : Loc nD τ sig) → Buf (Elt Ideal) ℓ)

/-- The hidden states at coordinates. -/
abbrev argX (c : Dev nD) (s : Fin 32) (p k : Fin 1024) : EReal := (m ((c : Thread nD τ).loc main_arg0) : Vec Ideal S32x1024x1024 .f32) (ix3 s p k)
/-- The ids at coordinates. -/
abbrev argIds (c : Dev nD) (s : Fin 32) (p : Fin 1024) : BitVec 32 := (m ((c : Thread nD τ).loc main_arg2) : IVec S32x1024 32) (ix2 s p)
/-- The colbert matrix at coordinates. -/
abbrev argW (c : Dev nD) (o k : Fin 1024) : EReal := (m ((c : Thread nD τ).loc main_arg3) : Vec Ideal S1024x1024 .f32) (ix2 o k)
/-- The colbert bias at a coordinate. -/
abbrev argB (c : Dev nD) (o : Fin 1024) : EReal := (m ((c : Thread nD τ).loc main_arg4) : Vec Ideal S1024 .f32) (ix1 o)
/-- The sparse column at a coordinate. -/
abbrev argSW (c : Dev nD) (k : Fin 1024) : EReal := (m ((c : Thread nD τ).loc main_arg5) : Vec Ideal S1024x1 .f32) (ix2 k 0)
/-- The sparse bias. -/
abbrev argSB (c : Dev nD) : EReal := (m ((c : Thread nD τ).loc main_arg6) : Vec Ideal S1 .f32) (ix1 0)

/-- A point's hidden states at coordinates. -/
theorem blk_x' (c : Dev nD) (t : Fin cfg0.N) (i : Fin 1) (p k : Fin 1024) : iblk m c 0 t (ix3 i p k : S1x1024x1024.Idx) = argX m c (seqOf t) p k := by
  rw [blk_x]; exact congrArg _ (vix3 _ _ _)

/-- A point's ids at a coordinate. -/
theorem blk_ids' (c : Dev nD) (t : Fin cfg0.N) (i j : Fin 1) (p : Fin 1024) : iblk m c 5 t (ix3 i j p : S1x1x1024.Idx) = argIds m c (seqOf t) p := by
  rw [blk_ids]; exact congrArg _ (vix2 _ _)

/-- The array of the dense rows after the launch. -/
def arr6 (c : Dev nD) : Vec Ideal S32x1x1024 .f32 := fun j => Target.dense (argX m c) (j 0) (j 2)
/-- The array of the sparse rows after the launch. -/
def arr7 (c : Dev nD) : Vec Ideal S32x1960x128 .f32 := fun j => Target.sparse (argX m c) (argSW m c) (argSB m c) (argIds m c) (j 0) (128 * (j 1).val + (j 2).val)
/-- The array of the colbert rows after the launch. -/
def arr8 (c : Dev nD) : Vec Ideal S32x1023x1024 .f32 := fun j => Target.colbert (argX m c) (argW m c) (argB m c) (j 0) (j 1) (j 2)

/-- What a point leaves in the dense rows. -/
theorem at6 (c : Dev nD) (t : Fin cfg0.N) (z : S1x1x1024.Idx) : denseOut (iblk m c 0 t) z = arr6 m c (ValueIdx.ix3 (seqOf t) (z 1) (z 2)) := by
  rw [denseOut_apply]
  simp only [blk_x']
  rfl

/-- What a point leaves in the colbert rows. -/
theorem at8 (c : Dev nD) (t : Fin cfg0.N) (z : S1x1023x1024.Idx) :
    colbertOut (iblk m c 0 t) (iblk m c 1 t) (iblk m c 2 t) z = arr8 m c (ValueIdx.ix3 (seqOf t) (z 1) (z 2)) := by
  have hb : ∀ o, shapeCast S1x1024 (m ((c : Thread nD τ).loc main_arg4) : FVec Ideal S1024 .f32) shapeCasts_S1024_S1x1024 (ix2 0 o) = argB m c o := fun o => by
    pointwise
  rw [colbertOut_apply, blk_w, blk_cb]
  unfold colRow
  simp only [blk_x', hb]
  rfl

/-- What a point leaves in the sparse rows. -/
theorem at7 (hx : IdsLow m) (c : Dev nD) (t : Fin cfg0.N) (z : S1x1960x128.Idx) :
    sparseOut (iblk m c 0 t) (iblk m c 3 t) (iblk m c 4 t) (iblk m c 5 t) z = arr7 m c (ValueIdx.ix3 (seqOf t) (z 1) (z 2)) := by
  obtain ⟨i, R, l, rfl⟩ : ∃ (i : Fin 1) (R : Fin 1960) (l : Fin 128), z = ix3 i R l := ⟨_, _, _, eq_ix3 z⟩
  have hb : ∀ k l, broadcastInDim S1024x128 ![0, 1] bcast_S1024x1_S1024x128_0_1 (m ((c : Thread nD τ).loc main_arg5) : FVec Ideal S1024x1 .f32) (ix2 k l) = argSW m c k :=
    fun k l => by pointwise
  have hw : ∀ p, weights (iblk m c 0 t) (iblk m c 3 t) (iblk m c 4 t) (ix2 p l) = Target.weight (argX m c) (argSW m c) (argSB m c) (seqOf t) p := fun p => by
    rw [weights_apply, blk_wrep, blk_sb]
    refine congrArg (max · 0) (congrArg (· + _) (Finset.sum_congr rfl fun k _ => congrArg₂ (· * ·) (blk_x' m c t 0 p k) (hb k l)))
  rw [sparseOut_apply _ _ _ _ (fun p => hx c t _)]
  unfold offer
  simp only [hw, blk_ids']
  show _ = Target.sparse (argX m c) (argSW m c) (argSB m c) (argIds m c) (seqOf t) (128 * R.val + l.val)
  unfold Target.sparse
  have e : (R.val = 0 ∧ l.val < 4) ↔ 128 * R.val + l.val < 4 := by omega
  simp only [e]

/-- The dense rows after the launch. -/
theorem final6 (c : Dev nD) : (dats m 0 c).arrAt 6 cfg0.N = arr6 m c := by
  refine (dats m 0 c).arrAt_eq_of_covers 6 _ (by decide +kernel) fun t _ y => ?_
  refine Eq.trans ?_ (congrArg (arr6 m c) (emb6 t y)).symm
  show (dats m 0 c).after 6 t y = _
  rw [after6]
  exact at6 m c t y

/-- The sparse rows after the launch. -/
theorem final7 (hx : IdsLow m) (c : Dev nD) : (dats m 0 c).arrAt 7 cfg0.N = arr7 m c := by
  refine (dats m 0 c).arrAt_eq_of_covers 7 _ (by decide +kernel) fun t _ y => ?_
  refine Eq.trans ?_ (congrArg (arr7 m c) (emb7 t y)).symm
  show (dats m 0 c).after 7 t y = _
  rw [after7]
  exact at7 m hx c t y

/-- The colbert rows after the launch. -/
theorem final8 (c : Dev nD) : (dats m 0 c).arrAt 8 cfg0.N = arr8 m c := by
  refine (dats m 0 c).arrAt_eq_of_covers 8 _ (by decide +kernel) fun t _ y => ?_
  refine Eq.trans ?_ (congrArg (arr8 m c) (emb8 t y)).symm
  show (dats m 0 c).after 8 t y = _
  rw [after8]
  exact at8 m c t y

end Cert.KernelIdeal.Own

end
-- ==== Proof.RefValue.lean ====
/-
  What the reference's three results are at an index, over the extended reals.
-/
module

public import proofs.«01_k».proof.Proof.Target
public import proofs.«01_k».proof.Proof.Tables
public import proofs.«01_k».proof.Proof.Gen.ReferenceIdeal.Run

@[expose] public section

set_option maxRecDepth 16384

noncomputable section

namespace Cert.ReferenceIdeal.Heads

open Cert.ReferenceIdeal Cert.ReferenceIdeal.Gen
open Idealize.ShloMosaic Idealize.ShloMosaic.TcCoe
open Cert.KernelIdeal.Own (unit eps)

/-- The reference's dense result. -/
def dense (a0 : FVec Ideal S32x1024x1024 .f32) : FVec Ideal S32x1024 .f32 :=
  Host.divf (shapeCast _ (extractStridedSlice S32x1x1024 ![0, 0, 0] a0 slices_S32x1024x1024_S32x1x1024_0_0_0) shapeCasts_S32x1x1024_S32x1024) (broadcastInDim S32x1024 ![0, 1] bcast_S32x1_S32x1024_0_1 (maximumf (Host.sqrt (broadcastInDim S32x1 ![0] bcast_S32_S32x1_0 (Host.reduceAdd (mulf (shapeCast _ (extractStridedSlice S32x1x1024 ![0, 0, 0] a0 slices_S32x1024x1024_S32x1x1024_0_0_0) shapeCasts_S32x1x1024_S32x1024) (shapeCast _ (extractStridedSlice S32x1x1024 ![0, 0, 0] a0 slices_S32x1024x1024_S32x1x1024_0_0_0) shapeCasts_S32x1x1024_S32x1024)) (constant (F := Ideal) S_ .f32 0x00000000#32) reducesTo_S32x1024_S32_d1 h_S_))) (broadcastInDim S32x1 ![] bcast_S_S32x1 (constant (F := Ideal) S_ .f32 0x2B8CBCCC#32))))

/-- The reference's token weights. -/
def tokens (a0 : FVec Ideal S32x1024x1024 .f32) (a5 : FVec Ideal S1024x1 .f32) (a6 : FVec Ideal S1 .f32) : FVec Ideal S32x1024 .f32 :=
  shapeCast _ (maximumf (addf (Host.dotGeneral dot_S32x1024x1024_S1024x1_S32x1024x1_2_0_01_1_n_n none a0 a5) (broadcastInDim S32x1024x1 ![0, 1, 2] bcast_S1x1x1_S32x1024x1_0_1_2 (broadcastInDim S1x1x1 ![2] bcast_S1_S1x1x1_2 a6))) (broadcastInDim S32x1024x1 ![] bcast_S_S32x1024x1 (constant (F := Ideal) S_ .f32 0x00000000#32))) shapeCasts_S32x1024x1_S32x1024

/-- What each token offers each id in the reference. -/
def offers (a2 : IVec S32x1024 32) (w : FVec Ideal S32x1024 .f32) : FVec Ideal S32x1024x250002 .f32 :=
  select (cmpi .eq (broadcastInDim S32x1024x250002 ![0, 1, 2] bcast_S32x1024x1_S32x1024x250002_0_1_2 (broadcastInDim S32x1024x1 ![0, 1] bcast_S32x1024_S32x1024x1_0_1 a2)) (broadcastInDim S32x1024x250002 ![0, 1, 2] bcast_S1x1x250002_S32x1024x250002_0_1_2 (broadcastInDim S1x1x250002 ![2] bcast_S250002_S1x1x250002_2 (iotaInDim S250002 32 0)))) (broadcastInDim S32x1024x250002 ![0, 1, 2] bcast_S32x1024x1_S32x1024x250002_0_1_2 (broadcastInDim S32x1024x1 ![0, 1] bcast_S32x1024_S32x1024x1_0_1 w)) (broadcastInDim S32x1024x250002 ![] bcast_S_S32x1024x250002 (id (constant (F := Ideal) S_ .f32 0x00000000#32)))

/-- The largest offer of each id in the reference. -/
def largest (o : FVec Ideal S32x1024x250002 .f32) : FVec Ideal S32x250002 .f32 :=
  Host.reduce (FloatOps.maximumf (F := Ideal) (φ := .f32)) o (constant (F := Ideal) S_ .f32 0xFF800000#32) reducesTo_S32x1024x250002_S32x250002_d1 h_S_

/-- The reference's test for the first four ids. -/
def first : IVec S32x250002 1 :=
  broadcastInDim S32x250002 ![0, 1] bcast_S1x250002_S32x250002_0_1 (broadcastInDim S1x250002 ![1] bcast_S250002_S1x250002_1 (ori (ori (ori (cmpi .eq (iotaInDim S250002 32 0) (broadcastInDim S250002 ![] bcast_S_S250002 (constantI S_ 32 0#32))) (cmpi .eq (iotaInDim S250002 32 0) (broadcastInDim S250002 ![] bcast_S_S250002 (constantI S_ 32 2#32)))) (cmpi .eq (iotaInDim S250002 32 0) (broadcastInDim S250002 ![] bcast_S_S250002 (constantI S_ 32 1#32)))) (cmpi .eq (iotaInDim S250002 32 0) (broadcastInDim S250002 ![] bcast_S_S250002 (constantI S_ 32 3#32)))))

/-- Nothing at the first four ids, the largest offer elsewhere. -/
def masked (g : FVec Ideal S32x250002 .f32) : FVec Ideal S32x250002 .f32 :=
  select first (mulf g (broadcastInDim S32x250002 ![] bcast_S_S32x250002 (constant (F := Ideal) S_ .f32 0x00000000#32))) g

/-- The reference's sparse result. -/
def sparse (a0 : FVec Ideal S32x1024x1024 .f32) (a2 : IVec S32x1024 32) (a5 : FVec Ideal S1024x1 .f32) (a6 : FVec Ideal S1 .f32) : FVec Ideal S32x250002 .f32 :=
  masked (largest (offers a2 (tokens a0 a5 a6)))

/-- The reference's colbert result. -/
def colbert (a0 : FVec Ideal S32x1024x1024 .f32) (a1 : IVec S32x1024 32) (a3 : FVec Ideal S1024x1024 .f32) (a4 : FVec Ideal S1024 .f32) : FVec Ideal S32x1023x1024 .f32 :=
  Host.divf (mulf (addf (Host.dotGeneral dot_S32x1023x1024_S1024x1024_S32x1023x1024_2_1_01_0_n_n none (extractStridedSlice S32x1023x1024 ![0, 1, 0] a0 slices_S32x1024x1024_S32x1023x1024_0_1_0) a3) (broadcastInDim S32x1023x1024 ![0, 1, 2] bcast_S1x1x1024_S32x1023x1024_0_1_2 (broadcastInDim S1x1x1024 ![2] bcast_S1024_S1x1x1024_2 a4))) (broadcastInDim S32x1023x1024 ![0, 1, 2] bcast_S32x1023x1_S32x1023x1024_0_1_2 (sitofp .f32 (broadcastInDim S32x1023x1 ![0, 1] bcast_S32x1023_S32x1023x1_0_1 (extractStridedSlice S32x1023 ![0, 1] a1 slices_S32x1024_S32x1023_0_1))))) (broadcastInDim S32x1023x1024 ![0, 1, 2] bcast_S32x1023x1_S32x1023x1024_0_1_2 (maximumf (Host.sqrt (broadcastInDim S32x1023x1 ![0, 1] bcast_S32x1023_S32x1023x1_0_1 (Host.reduceAdd (mulf (mulf (addf (Host.dotGeneral dot_S32x1023x1024_S1024x1024_S32x1023x1024_2_1_01_0_n_n none (extractStridedSlice S32x1023x1024 ![0, 1, 0] a0 slices_S32x1024x1024_S32x1023x1024_0_1_0) a3) (broadcastInDim S32x1023x1024 ![0, 1, 2] bcast_S1x1x1024_S32x1023x1024_0_1_2 (broadcastInDim S1x1x1024 ![2] bcast_S1024_S1x1x1024_2 a4))) (broadcastInDim S32x1023x1024 ![0, 1, 2] bcast_S32x1023x1_S32x1023x1024_0_1_2 (sitofp .f32 (broadcastInDim S32x1023x1 ![0, 1] bcast_S32x1023_S32x1023x1_0_1 (extractStridedSlice S32x1023 ![0, 1] a1 slices_S32x1024_S32x1023_0_1))))) (mulf (addf (Host.dotGeneral dot_S32x1023x1024_S1024x1024_S32x1023x1024_2_1_01_0_n_n none (extractStridedSlice S32x1023x1024 ![0, 1, 0] a0 slices_S32x1024x1024_S32x1023x1024_0_1_0) a3) (broadcastInDim S32x1023x1024 ![0, 1, 2] bcast_S1x1x1024_S32x1023x1024_0_1_2 (broadcastInDim S1x1x1024 ![2] bcast_S1024_S1x1x1024_2 a4))) (broadcastInDim S32x1023x1024 ![0, 1, 2] bcast_S32x1023x1_S32x1023x1024_0_1_2 (sitofp .f32 (broadcastInDim S32x1023x1 ![0, 1] bcast_S32x1023_S32x1023x1_0_1 (extractStridedSlice S32x1023 ![0, 1] a1 slices_S32x1024_S32x1023_0_1)))))) (constant (F := Ideal) S_ .f32 0x00000000#32) reducesTo_S32x1023x1024_S32x1023_d2 h_S_))) (broadcastInDim S32x1023x1 ![] bcast_S_S32x1023x1 (constant (F := Ideal) S_ .f32 0x2B8CBCCC#32))))

/-- The small constant is above zero. -/
theorem eps_pos : 0 < eps := by
  have e : eps = (((9223372 : ℝ) * 2 ^ (-63 : ℤ) : ℝ) : EReal) := by
    simp [eps, Ideal.ofBits, Ideal.ieee]
  rw [e]
  exact_mod_cast (by positivity : (0 : ℝ) < 9223372 * 2 ^ (-63 : ℤ))

/-- The word of the negative infinity. -/
theorem ofBits_bot : Ideal.ofBits .f32 0xFF800000#32 = ⊥ := by
  simp [Ideal.ofBits, Ideal.ieee]

/-- A row's entry over the larger of the norm and the small constant, by one division. -/
theorem div_eq_unit (y : Fin 1024 → EReal) (h : Fin 1024) :
    Ideal.div (y h) (max (Ideal.sqrt (∑ k, y k * y k)) eps) = unit y h := by
  unfold unit
  have hd : max (Ideal.sqrt (∑ k, y k * y k)) eps ≠ 0 := (lt_of_lt_of_le eps_pos (le_max_right _ _)).ne'
  generalize max (Ideal.sqrt (∑ k, y k * y k)) eps = d at hd
  unfold Ideal.div
  rw [if_neg hd, if_neg hd, one_mul]

/-- A mask's word of one is the number one. -/
theorem sitofp_one : (FloatOps.sitofp (F := Ideal) .f32 1#32 : EReal) = 1 := by
  show (((1#32 : BitVec 32).toInt : ℝ) : EReal) = 1
  rw [show (1#32 : BitVec 32).toInt = 1 from by decide]
  simp

/-- The dense result at an index. -/
theorem dense_apply (a0 : FVec Ideal S32x1024x1024 .f32) (s : Fin 32) (h : Fin 1024) :
    dense a0 (ix2 s h) = Cert.Target.dense (fun s p k => a0 (ix3 s p k)) s h := by
  unfold dense
  pointwise
  exact div_eq_unit (fun k => a0 (ix3 s 0 k)) h

/-- The colbert result at an index, for a mask of ones. -/
theorem colbert_apply (a0 : FVec Ideal S32x1024x1024 .f32) (a1 : IVec S32x1024 32) (a3 : FVec Ideal S1024x1024 .f32) (a4 : FVec Ideal S1024 .f32)
    (h1 : ∀ y, a1 y = 1#32) (s : Fin 32) (r : Fin 1023) (h : Fin 1024) :
    colbert a0 a1 a3 a4 (ix3 s r h) = Cert.Target.colbert (fun s p k => a0 (ix3 s p k)) (fun o k => a3 (ix2 o k)) (fun o => a4 (ix1 o)) s r h := by
  unfold colbert
  pointwise
  have e : ∀ q, (⟨1 + r.val, q⟩ : Fin 1024) = ⟨r.val + 1, by omega⟩ := fun q => Fin.ext (Nat.add_comm _ _)
  simp only [h1, sitofp_one, mul_one, e]
  exact div_eq_unit (fun o => (∑ k, a0 (ix3 s ⟨r.val + 1, by omega⟩ k) * a3 (ix2 o k)) + a4 (ix1 o)) h

/-- A token's weight. -/
theorem tokens_apply (a0 : FVec Ideal S32x1024x1024 .f32) (a5 : FVec Ideal S1024x1 .f32) (a6 : FVec Ideal S1 .f32) (s : Fin 32) (p : Fin 1024) :
    tokens a0 a5 a6 (ix2 s p) = Cert.Target.weight (fun s p k => a0 (ix3 s p k)) (fun k => a5 (ix2 k 0)) (a6 (ix1 0)) s p := by
  unfold tokens Cert.Target.weight
  pointwise

/-- The test for the first four ids, at an index. -/
theorem first_apply (s : Fin 32) (v : Fin 250002) : first (ix2 s v) = IntOp.ori
        (IntOp.ori
          (IntOp.ori (IntOp.cmpi CmpIPredicate.eq (BitVec.ofNat 32 v.val) 0#32)
            (IntOp.cmpi CmpIPredicate.eq (BitVec.ofNat 32 v.val) 2#32))
          (IntOp.cmpi CmpIPredicate.eq (BitVec.ofNat 32 v.val) 1#32))
        (IntOp.cmpi CmpIPredicate.eq (BitVec.ofNat 32 v.val) 3#32) := by
  unfold first
  pointwise

/-- A small number's word is another's when the numbers are. -/
theorem word_iff (w : BitVec 32) (v : Fin 250002) : w = BitVec.ofNat 32 v.val ↔ w.toNat = v.val := by
  have hv := v.isLt
  rw [← BitVec.toNat_inj, BitVec.toNat_ofNat, Nat.mod_eq_of_lt (by omega)]

/-- What the test for the first four ids says. -/
theorem first_iff (s : Fin 32) (v : Fin 250002) : first (ix2 s v) = 1#1 ↔ v.val < 4 := by
  have hw : ∀ w : BitVec 32, BitVec.ofNat 32 v.val = w ↔ v.val = w.toNat := fun w => by
    rw [eq_comm, word_iff, eq_comm]
  rw [first_apply, Cert.KernelIdeal.Own.ori_iff, Cert.KernelIdeal.Own.ori_iff, Cert.KernelIdeal.Own.ori_iff,
    Cert.KernelIdeal.Own.eq_iff, Cert.KernelIdeal.Own.eq_iff, Cert.KernelIdeal.Own.eq_iff, Cert.KernelIdeal.Own.eq_iff, hw, hw, hw, hw]
  show ((v.val = 0 ∨ v.val = 2) ∨ v.val = 1) ∨ v.val = 3 ↔ _
  omega

/-- The masked rows at an index. -/
theorem masked_apply (g : FVec Ideal S32x250002 .f32) (s : Fin 32) (v : Fin 250002) : masked g (ix2 s v) = if v.val < 4 then 0 else g (ix2 s v) := by
  have hf := first_iff s v
  unfold masked
  generalize first = f at hf
  pointwise
  rw [mul_zero]
  exact Cert.KernelIdeal.Own.select_iff _ _ _ hf

/-- What a token offers an id. -/
theorem offers_apply (a2 : IVec S32x1024 32) (w : FVec Ideal S32x1024 .f32) (s : Fin 32) (p : Fin 1024) (v : Fin 250002) :
    offers a2 w (ix3 s p v) = if (a2 (ix2 s p)).toNat = v.val then w (ix2 s p) else 0 := by
  unfold offers
  pointwise
  rw [show (id (constant (F := Ideal) S_ .f32 0#32) ix0 : EReal) = 0 from Ideal.ofBits_zero .f32]
  exact Cert.KernelIdeal.Own.select_iff _ _ _ ((Cert.KernelIdeal.Own.eq_iff _ _).trans (word_iff _ _))

/-- The largest offer of an id. -/
theorem largest_apply (o : FVec Ideal S32x1024x250002 .f32) (s : Fin 32) (v : Fin 250002) : largest o (ix2 s v) = Finset.univ.sup fun p => o (ix3 s p v) := by
  unfold largest
  pointwise
  rw [ofBits_bot]
  rfl

/-- The sparse result at an index. -/
theorem sparse_apply (a0 : FVec Ideal S32x1024x1024 .f32) (a2 : IVec S32x1024 32) (a5 : FVec Ideal S1024x1 .f32) (a6 : FVec Ideal S1 .f32)
    (s : Fin 32) (v : Fin 250002) :
    sparse a0 a2 a5 a6 (ix2 s v) = Cert.Target.sparse (fun s p k => a0 (ix3 s p k)) (fun k => a5 (ix2 k 0)) (a6 (ix1 0)) (fun s p => a2 (ix2 s p)) s v.val := by
  unfold sparse Cert.Target.sparse
  rw [masked_apply, largest_apply]
  simp only [offers_apply, tokens_apply]

end Cert.ReferenceIdeal.Heads

end
-- ==== Proof.Value.lean ====
/-
  The value claim: over the extended reals, with every id in the vocabulary and a mask of ones, the kernel's three results are
  the reference's, at every index.
-/
module

public import proofs.«01_k».proof.Defs
public import proofs.«01_k».proof.Proof.Ids
public import proofs.«01_k».proof.Proof.Arrays
public import proofs.«01_k».proof.Proof.RefValue
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Pipeline

variable (m : (ℓ : Loc nD τ sig) → Buf (Elt Ideal) ℓ)

/-- The dense result, from its array. -/
theorem tail_dense (c : Dev nD) :
    Pipeline.afterTail₀ cfgs (dats m) 0 (V0 m) [hostOps1] c main_v0_0 = shapeCast S32x1024 (arr6 m c) shapeCasts_S32x1x1024_S32x1024 := by
  refine Eq.trans ?_ (congrArg (shapeCast S32x1024 · shapeCasts_S32x1x1024_S32x1024) (final6 m c))
  unfold Pipeline.afterTail₀
  have hw := Pipeline.withArrays_arr spec0 launch0.win.arr_inj c (V0 m c) (fun w => (dats m 0 c).arrAt w (cfgs 0).N) 6
  generalize Pipeline.withArrays _ c (V0 m c) _ = W at hw ⊢
  show StableHlo.after hostOps1 W (Proc.devRef .tc main_v0_0) = _
  after_results
  exact congrArg (shapeCast S32x1024 · shapeCasts_S32x1x1024_S32x1024) hw

/-- The id table's rows laid out as one row, cut at the vocabulary's size. -/
def flat (a : FVec Ideal S32x1960x128 .f32) : FVec Ideal S32x250002 .f32 :=
  extractStridedSlice S32x250002 ![0, 0] (shapeCast S32x250880 a shapeCasts_S32x1960x128_S32x250880) slices_S32x250880_S32x250002_0_0

/-- The sparse result, from its array. -/
theorem tail_sparse (hx : IdsLow m) (c : Dev nD) :
    Pipeline.afterTail₀ cfgs (dats m) 0 (V0 m) [hostOps1] c main_v0_1 = flat (arr7 m c) := by
  refine Eq.trans ?_ (congrArg flat (final7 m hx c))
  unfold Pipeline.afterTail₀
  have hw := Pipeline.withArrays_arr spec0 launch0.win.arr_inj c (V0 m c) (fun w => (dats m 0 c).arrAt w (cfgs 0).N) 7
  generalize Pipeline.withArrays _ c (V0 m c) _ = W at hw ⊢
  show StableHlo.after hostOps1 W (Proc.devRef .tc main_v0_1) = _
  after_results
  exact congrArg flat hw

/-- The laid out row at an index. -/
theorem flat_apply (a : FVec Ideal S32x1960x128 .f32) (s : Fin 32) (v : Fin 250002) :
    flat a (ix2 s v) = a (ix3 s ⟨v.val / 128, by omega⟩ ⟨v.val % 128, by omega⟩) := by
  unfold flat
  pointwise

/-- The dense row at an index. -/
theorem row_apply (a : FVec Ideal S32x1x1024 .f32) (s : Fin 32) (h : Fin 1024) :
    shapeCast S32x1024 a shapeCasts_S32x1x1024_S32x1024 (ix2 s h) = a (ix3 s 0 h) := by
  pointwise

/-- What the kernel leaves in the dense result. -/
theorem out_dense (c : Dev nD) : Pipeline.afterTail₀ cfgs (dats m) 0 (V0 m) [hostOps1] c main_v0_0
    = (fun j => Target.dense (argX m c) (j 0) (j 1) : FVec Ideal S32x1024 .f32) := by
  rw [tail_dense]
  funext j
  obtain ⟨s, h, rfl⟩ : ∃ (s : Fin 32) (h : Fin 1024), j = ix2 s h := ⟨_, _, eq_ix2 j⟩
  exact row_apply _ s h

/-- What the kernel leaves in the sparse result. -/
theorem out_sparse (hx : IdsLow m) (c : Dev nD) : Pipeline.afterTail₀ cfgs (dats m) 0 (V0 m) [hostOps1] c main_v0_1
    = (fun j => Target.sparse (argX m c) (argSW m c) (argSB m c) (argIds m c) (j 0) (j 1).val : FVec Ideal S32x250002 .f32) := by
  rw [tail_sparse m hx]
  funext j
  obtain ⟨s, v, rfl⟩ : ∃ (s : Fin 32) (v : Fin 250002), j = ix2 s v := ⟨_, _, eq_ix2 j⟩
  refine (flat_apply _ s v).trans ?_
  exact congrArg (Target.sparse (argX m c) (argSW m c) (argSB m c) (argIds m c) s) (Nat.div_add_mod v.val 128)

end Cert.KernelIdeal.Own

namespace Cert.Proof.Value

open Idealize.ShloMosaic Idealize.ShloMosaic.TcCoe Idealize.SL.Sem

/-- The kernel's results are the reference's over the extended reals. -/
theorem algebraic : Cert.algebraic_KernelIdeal_ReferenceIdeal_pre_ids_in_vocab_mask_ones := by
  intro m g m' g' hpre hag
  have hx := Cert.KernelIdeal.Own.idsLow_of m fun c y => Cert.Ids.low' _ _ _ _ _ _ _ (hpre c) y
  refine ⟨fun c j => Target.dense (Cert.KernelIdeal.Own.argX m c) (j 0) (j 1),
    fun c j => Target.sparse (Cert.KernelIdeal.Own.argX m c) (Cert.KernelIdeal.Own.argSW m c) (Cert.KernelIdeal.Own.argSB m c) (Cert.KernelIdeal.Own.argIds m c) (j 0) (j 1).val,
    fun c j => Target.colbert (Cert.KernelIdeal.Own.argX m c) (Cert.KernelIdeal.Own.argW m c) (Cert.KernelIdeal.Own.argB m c) (j 0) (j 1) (j 2), ?_, ?_⟩
  · refine (θ_run Cert.KernelIdeal.defs _ _).mono (fun r h c => ?_)
      (θ_run_and (Cert.KernelIdeal.Own.run_main m g hx) (Cert.KernelIdeal.Own.frame_main m g hx))
    obtain ⟨⟨hp, _⟩, hf, _⟩ := h
    exact ⟨((hp c).2 Cert.KernelIdeal.main_v0_0 (Pipeline.mem_restRefs_of _ (by decide) (by decide))).trans (Cert.KernelIdeal.Own.out_dense m c),
      ((hp c).2 Cert.KernelIdeal.main_v0_1 (Pipeline.mem_restRefs_of _ (by decide) (by decide))).trans (Cert.KernelIdeal.Own.out_sparse m hx c),
      ((hp c).1 8).trans (Cert.KernelIdeal.Own.final8 m c), hf c⟩
  · refine (θ_run Cert.ReferenceIdeal.defs _ _).mono (fun r h c => ?_) (Cert.ReferenceIdeal.Value.run (F := Ideal) m' g')
    obtain ⟨h0, h1, h2, hargs⟩ := h c
    obtain ⟨e0, e1, e2, e3, e4, e5, e6⟩ := hag c
    have hm := Cert.Ids.ones _ _ _ _ _ _ _ (hpre c)
    refine ⟨h0.trans ?_, h1.trans ?_, h2.trans ?_, hargs⟩
    · rw [e0]
      funext j
      obtain ⟨s, h, rfl⟩ : ∃ (s : Fin 32) (h : Fin 1024), j = ix2 s h := ⟨_, _, eq_ix2 j⟩
      exact Cert.ReferenceIdeal.Heads.dense_apply _ s h
    · rw [e0, e2, e5, e6]
      funext j
      obtain ⟨s, v, rfl⟩ : ∃ (s : Fin 32) (v : Fin 250002), j = ix2 s v := ⟨_, _, eq_ix2 j⟩
      exact Cert.ReferenceIdeal.Heads.sparse_apply _ _ _ _ s v
    · rw [e0, e1, e3, e4]
      funext j
      obtain ⟨s, t, h, rfl⟩ : ∃ (s : Fin 32) (t : Fin 1023) (h : Fin 1024), j = ix3 s t h := ⟨_, _, _, eq_ix3 j⟩
      exact Cert.ReferenceIdeal.Heads.colbert_apply _ _ _ _ hm s t h

end Cert.Proof.Value

end
-- ==== Proof.lean ====
/-
  The certificate's claim, assembled: the frames (Proof/Frames.lean), preservation, which asks nothing as no rewrite was
  made, and the equality of the kernel's three results with the reference's over the extended reals (Proof/Value.lean).
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_vocab
public import proofs.«01_k».proof.Proof.Gen.Pre_ids_in_vocab_mask_ones

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_ids_in_vocab.Gen.facts,
    Cert.Pre_ids_in_vocab_mask_ones.Gen.facts, Frames.kernel, Frames.kernelIdeal, Frames.kernelIdeal', Frames.reference,
    Frames.reference', trivial, Value.algebraic⟩

end Cert.Proof

end
